-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v19_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x4096x2048 : Shape := ⟨3, ![4, 4096, 2048]⟩
abbrev S4x4096x11264 : Shape := ⟨3, ![4, 4096, 11264]⟩
abbrev S4x4096x128 : Shape := ⟨3, ![4, 4096, 128]⟩
abbrev S4x128x4096 : Shape := ⟨3, ![4, 128, 4096]⟩
abbrev S4x32x128 : Shape := ⟨3, ![4, 32, 128]⟩
abbrev S128x512 : Shape := ⟨2, ![128, 512]⟩
abbrev S4x32x8 : Shape := ⟨3, ![4, 32, 8]⟩
abbrev S1024 : Shape := ⟨1, ![1024]⟩
abbrev S4x4096x1024 : Shape := ⟨3, ![4, 4096, 1024]⟩
abbrev S1x512x1024 : Shape := ⟨3, ![1, 512, 1024]⟩
abbrev S1x512x128 : Shape := ⟨3, ![1, 512, 128]⟩
abbrev S1x128x512 : Shape := ⟨3, ![1, 128, 512]⟩
abbrev S8x256x256 : Shape := ⟨3, ![8, 256, 256]⟩
abbrev S8x256x128 : Shape := ⟨3, ![8, 256, 128]⟩
abbrev S128x128 : Shape := ⟨2, ![128, 128]⟩
abbrev S1x128x128 : Shape := ⟨3, ![1, 128, 128]⟩
abbrev S128x384 : Shape := ⟨2, ![128, 384]⟩
abbrev S1 : Shape := ⟨1, ![1]⟩
abbrev S1x128x1024 : Shape := ⟨3, ![1, 128, 1024]⟩
abbrev S128x1024 : Shape := ⟨2, ![128, 1024]⟩
abbrev S128x256 : Shape := ⟨2, ![128, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S256x384 : Shape := ⟨2, ![256, 384]⟩
abbrev S1x128x256 : Shape := ⟨3, ![1, 128, 256]⟩

abbrev nBuf : Space → Nat
  | .hbm => 11
  | .vmem => 27
  | .smem => 1
  | _ => 0

abbrev bufTy : (tb : Table) → Fin (tcTables nBuf tb) → BufTy
  | .hbm, ⟨0, _⟩ => ⟨S4x4096x2048, .bf16⟩
  | .hbm, ⟨1, _⟩ => ⟨S4x4096x11264, .bf16⟩
  | .hbm, ⟨2, _⟩ => ⟨S4x4096x128, .bf16⟩
  | .hbm, ⟨3, _⟩ => ⟨S4x128x4096, .bf16⟩
  | .hbm, ⟨4, _⟩ => ⟨S4x32x128, .f32⟩
  | .hbm, ⟨5, _⟩ => ⟨S128x512, .f32⟩
  | .hbm, ⟨6, _⟩ => ⟨S4x32x8, .f32⟩
  | .hbm, ⟨7, _⟩ => ⟨S1024, .f32⟩
  | .hbm, ⟨8, _⟩ => ⟨S128x512, .bf16⟩
  | .hbm, ⟨9, _⟩ => ⟨S4x4096x1024, .bf16⟩
  | .hbm, ⟨10, _⟩ => ⟨S4x4096x1024, .bf16⟩
  | .local _ .vmem, ⟨0, _⟩ => ⟨S128x512, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x128, .bf16⟩
  | .local _ .vmem, ⟨8, _⟩ => ⟨S1x512x128, .bf16⟩
  | .local _ .vmem, ⟨9, _⟩ => ⟨S1x128x512, .bf16⟩
  | .local _ .vmem, ⟨10, _⟩ => ⟨S1x128x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x128, .bf16⟩
  | .local _ .vmem, ⟨18, _⟩ => ⟨S1x512x128, .bf16⟩
  | .local _ .vmem, ⟨19, _⟩ => ⟨S1x128x512, .bf16⟩
  | .local _ .vmem, ⟨20, _⟩ => ⟨S1x128x512, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S8x256x256, .f32⟩
  | .local _ .vmem, ⟨26, _⟩ => ⟨S8x256x128, .f32⟩
  | .local _ .smem, ⟨0, _⟩ => ⟨S1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

def k0_off1 (i : grid0.Coords) (c0_i32_5 : BitVec 32) (c0_i32_19 : BitVec 32) : Fin 1 → Nat :=
  let arg0 : BitVec 32 := BitVec.ofNat 32 (i 0).val
  let c32_i32 : BitVec 32 := 32#32
  let v37 : BitVec 32 := Scalar.muli arg0 c32_i32
  let arg1 : BitVec 32 := BitVec.ofNat 32 (i 1).val
  let c4_i32 : BitVec 32 := 4#32
  let v24 : BitVec 32 := Scalar.muli arg1 c4_i32
  let v25 : BitVec 32 := Scalar.addi v24 c0_i32_5
  let v38 : BitVec 32 := Scalar.addi v37 v25
  let c8_i32_14 : BitVec 32 := 8#32
  let v39 : BitVec 32 := Scalar.muli v38 c8_i32_14
  let v55 : BitVec 32 := Scalar.addi v39 c0_i32_19
  let v56 : Index := Scalar.indexCast v55
  ![v56.toNat]
def k0_off2 (i : grid0.Coords) (c3_i32_178 : BitVec 32) (c4_i32_194 : BitVec 32) : Fin 1 → Nat :=
  let arg0 : BitVec 32 := BitVec.ofNat 32 (i 0).val
  let c32_i32_188 : BitVec 32 := 32#32
  let v371 : BitVec 32 := Scalar.muli arg0 c32_i32_188
  let c32_i32_177 : BitVec 32 := 32#32
  let arg1 : BitVec 32 := BitVec.ofNat 32 (i 1).val
  let c1_i32_175 : BitVec 32 := 1#32
  let v356 : BitVec 32 := Scalar.addi arg1 c1_i32_175
  let c4_i32_176 : BitVec 32 := 4#32
  let v357 : BitVec 32 := Scalar.muli v356 c4_i32_176
  let v358 : BitVec 32 := Scalar.subi c32_i32_177 v357
  let v359 : BitVec 32 := Scalar.addi v358 c3_i32_178
  let v372 : BitVec 32 := Scalar.addi v371 v359
  let c8_i32_189 : BitVec 32 := 8#32
  let v373 : BitVec 32 := Scalar.muli v372 c8_i32_189
  let v389 : BitVec 32 := Scalar.addi v373 c4_i32_194
  let v390 : Index := Scalar.indexCast v389
  ![v390.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![arg0.toNat, v0.toNat, c1_i32.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c9_i32 : BitVec 32 := 9#32
  let c0_i32 : BitVec 32 := 0#32
  ![arg0.toNat, v0.toNat, c9_i32.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage0_0 : Fin 1 → Memref sig .tc .smem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x4096x2048 : Shape := ⟨3, ![4, 4096, 2048]⟩
abbrev S4x4096x11264 : Shape := ⟨3, ![4, 4096, 11264]⟩
abbrev S4x4096x128 : Shape := ⟨3, ![4, 4096, 128]⟩
abbrev S4x128x4096 : Shape := ⟨3, ![4, 128, 4096]⟩
abbrev S4x32x128 : Shape := ⟨3, ![4, 32, 128]⟩
abbrev S4x4096x1024 : Shape := ⟨3, ![4, 4096, 1024]⟩
abbrev S4x32x128x4x256 : Shape := ⟨5, ![4, 32, 128, 4, 256]⟩
abbrev S32x4x4x128x256 : Shape := ⟨5, ![32, 4, 4, 128, 256]⟩
abbrev S32x1x4x4x128x256 : Shape := ⟨6, ![32, 1, 4, 4, 128, 256]⟩
abbrev S32x2x4x4x128x256 : Shape := ⟨6, ![32, 2, 4, 4, 128, 256]⟩
abbrev S4x32x128x16x2x4 : Shape := ⟨6, ![4, 32, 128, 16, 2, 4]⟩
abbrev S32x2x4x128x16x4 : Shape := ⟨6, ![32, 2, 4, 128, 16, 4]⟩
abbrev S4x16x2x4x32x128 : Shape := ⟨6, ![4, 16, 2, 4, 32, 128]⟩
abbrev S32x2x4x16x4x128 : Shape := ⟨6, ![32, 2, 4, 16, 4, 128]⟩
abbrev S4x32x8 : Shape := ⟨3, ![4, 32, 8]⟩
abbrev S4x32x2x4 : Shape := ⟨4, ![4, 32, 2, 4]⟩
abbrev S32x2x4x4 : Shape := ⟨4, ![32, 2, 4, 4]⟩
abbrev S1x1x16x1x1 : Shape := ⟨5, ![1, 1, 16, 1, 1]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S2x1x1x128x128 : Shape := ⟨5, ![2, 1, 1, 128, 128]⟩
abbrev S2x4x4x256x256 : Shape := ⟨5, ![2, 4, 4, 256, 256]⟩
abbrev S2x4x4x256 : Shape := ⟨4, ![2, 4, 4, 256]⟩
abbrev S32x1x4x128x16x4 : Shape := ⟨6, ![32, 1, 4, 128, 16, 4]⟩
abbrev S32x4x128x16x4 : Shape := ⟨5, ![32, 4, 128, 16, 4]⟩
abbrev S32x1x4x16x4x128 : Shape := ⟨6, ![32, 1, 4, 16, 4, 128]⟩
abbrev S32x4x16x4x128 : Shape := ⟨5, ![32, 4, 16, 4, 128]⟩
abbrev S32x1x4x4 : Shape := ⟨4, ![32, 1, 4, 4]⟩
abbrev S32x4x4 : Shape := ⟨3, ![32, 4, 4]⟩
abbrev S1x2x4x4x128x256 : Shape := ⟨6, ![1, 2, 4, 4, 128, 256]⟩
abbrev S2x4x4x128x256 : Shape := ⟨5, ![2, 4, 4, 128, 256]⟩
abbrev S1x2x4x128x16x4 : Shape := ⟨6, ![1, 2, 4, 128, 16, 4]⟩
abbrev S2x4x128x16x4 : Shape := ⟨5, ![2, 4, 128, 16, 4]⟩
abbrev S1x2x4x16x4x128 : Shape := ⟨6, ![1, 2, 4, 16, 4, 128]⟩
abbrev S2x4x16x4x128 : Shape := ⟨5, ![2, 4, 16, 4, 128]⟩
abbrev S1x2x4x4 : Shape := ⟨4, ![1, 2, 4, 4]⟩
abbrev S2x4x4 : Shape := ⟨3, ![2, 4, 4]⟩
abbrev S2x4x128x3x4 : Shape := ⟨5, ![2, 4, 128, 3, 4]⟩
abbrev S2x4x128x4 : Shape := ⟨4, ![2, 4, 128, 4]⟩
abbrev S2x4x4x128 : Shape := ⟨4, ![2, 4, 4, 128]⟩
abbrev S2x4x4x128x128 : Shape := ⟨5, ![2, 4, 4, 128, 128]⟩
abbrev S2x4x4x128x1 : Shape := ⟨5, ![2, 4, 4, 128, 1]⟩
abbrev S2x4x4x1x1 : Shape := ⟨5, ![2, 4, 4, 1, 1]⟩
abbrev S2x4x4x1 : Shape := ⟨4, ![2, 4, 4, 1]⟩

abbrev nBuf : Space → Nat
  | .hbm => 223
  | .vmem => 0
  | .smem => 0
  | _ => 0

abbrev hbmTy0_0 (i : Nat) : BufTy := match i % 128 with
  | 0 => ⟨S4x4096x2048, .bf16⟩
  | 1 => ⟨S4x4096x11264, .bf16⟩
  | 2 => ⟨S4x4096x128, .bf16⟩
  | 3 => ⟨S4x128x4096, .bf16⟩
  | 4 => ⟨S4x32x128, .f32⟩
  | 5 => ⟨S4x4096x1024, .bf16⟩
  | 6 => ⟨S4x4096x1024, .f32⟩
  | 7 => ⟨S4x32x128x4x256, .f32⟩
  | 8 => ⟨S32x4x4x128x256, .f32⟩
  | 9 => ⟨S32x4x4x128x256, .f32⟩
  | 10 => ⟨S32x1x4x4x128x256, .f32⟩
  | 11 => ⟨S32x1x4x4x128x256, .f32⟩
  | 12 => ⟨S32x2x4x4x128x256, .f32⟩
  | 13 => ⟨S4x4096x1024, .bf16⟩
  | 14 => ⟨S4x4096x1024, .f32⟩
  | 15 => ⟨S4x32x128x4x256, .f32⟩
  | 16 => ⟨S32x4x4x128x256, .f32⟩
  | 17 => ⟨S32x4x4x128x256, .f32⟩
  | 18 => ⟨S32x1x4x4x128x256, .f32⟩
  | 19 => ⟨S32x1x4x4x128x256, .f32⟩
  | 20 => ⟨S32x2x4x4x128x256, .f32⟩
  | 21 => ⟨S4x4096x1024, .bf16⟩
  | 22 => ⟨S4x4096x1024, .f32⟩
  | 23 => ⟨S4x32x128x4x256, .f32⟩
  | 24 => ⟨S32x4x4x128x256, .f32⟩
  | 25 => ⟨S32x4x4x128x256, .f32⟩
  | 26 => ⟨S32x1x4x4x128x256, .f32⟩
  | 27 => ⟨S32x1x4x4x128x256, .f32⟩
  | 28 => ⟨S32x2x4x4x128x256, .f32⟩
  | 29 => ⟨S4x4096x128, .f32⟩
  | 30 => ⟨S4x32x128x16x2x4, .f32⟩
  | 31 => ⟨S32x2x4x128x16x4, .f32⟩
  | 32 => ⟨S4x128x4096, .f32⟩
  | 33 => ⟨S4x16x2x4x32x128, .f32⟩
  | 34 => ⟨S32x2x4x16x4x128, .f32⟩
  | 35 => ⟨S4x32x8, .f32⟩
  | 36 => ⟨S4x32x2x4, .f32⟩
  | 37 => ⟨S32x2x4x4, .f32⟩
  | 38 => ⟨S1x1x16x1x1, .i32⟩
  | 39 => ⟨S_, .i32⟩
  | 40 => ⟨S1x1x16x1x1, .i32⟩
  | 41 => ⟨S1x1x16x1x1, .i1⟩
  | 42 => ⟨S1x1x16x1x1, .i32⟩
  | 43 => ⟨S1x1x16x1x1, .f32⟩
  | 44 => ⟨S128x128, .i32⟩
  | 45 => ⟨S128x128, .i32⟩
  | 46 => ⟨S128x128, .i1⟩
  | 47 => ⟨S128x128, .i1⟩
  | 48 => ⟨S1x128x128, .i1⟩
  | 49 => ⟨S1x128x128, .i1⟩
  | 50 => ⟨S2x128x128, .i1⟩
  | 51 => ⟨S2x1x1x128x128, .i1⟩
  | 52 => ⟨S_, .f32⟩
  | 53 => ⟨S2x4x4x256x256, .f32⟩
  | 54 => ⟨S_, .f32⟩
  | 55 => ⟨S2x4x4x256, .f32⟩
  | 56 => ⟨S32x1x4x128x16x4, .f32⟩
  | 57 => ⟨S32x4x128x16x4, .f32⟩
  | 58 => ⟨S32x1x4x128x16x4, .f32⟩
  | 59 => ⟨S32x4x128x16x4, .f32⟩
  | 60 => ⟨S32x4x128x16x4, .f32⟩
  | 61 => ⟨S32x1x4x128x16x4, .f32⟩
  | 62 => ⟨S32x1x4x128x16x4, .f32⟩
  | 63 => ⟨S32x2x4x128x16x4, .f32⟩
  | 64 => ⟨S32x1x4x16x4x128, .f32⟩
  | 65 => ⟨S32x4x16x4x128, .f32⟩
  | 66 => ⟨S32x1x4x16x4x128, .f32⟩
  | 67 => ⟨S32x4x16x4x128, .f32⟩
  | 68 => ⟨S32x4x16x4x128, .f32⟩
  | 69 => ⟨S32x1x4x16x4x128, .f32⟩
  | 70 => ⟨S32x1x4x16x4x128, .f32⟩
  | 71 => ⟨S32x2x4x16x4x128, .f32⟩
  | 72 => ⟨S32x1x4x4, .f32⟩
  | 73 => ⟨S32x4x4, .f32⟩
  | 74 => ⟨S32x1x4x4, .f32⟩
  | 75 => ⟨S32x4x4, .f32⟩
  | 76 => ⟨S32x4x4, .f32⟩
  | 77 => ⟨S32x1x4x4, .f32⟩
  | 78 => ⟨S32x1x4x4, .f32⟩
  | 79 => ⟨S32x2x4x4, .f32⟩
  | 80 => ⟨S_, .f32⟩
  | 81 => ⟨S32x2x4x4x128x256, .f32⟩
  | 82 => ⟨S_, .i32⟩
  | 83 => ⟨S32x2x4x4x128x256, .f32⟩
  | 84 => ⟨S32x2x4x4x128x256, .f32⟩
  | 85 => ⟨S32x2x4x4x128x256, .f32⟩
  | 86 => ⟨S32x2x4x128x16x4, .f32⟩
  | 87 => ⟨S32x2x4x16x4x128, .f32⟩
  | 88 => ⟨S32x2x4x4, .f32⟩
  | 89 => ⟨S1x1x16x1x1, .f32⟩
  | 90 => ⟨S2x1x1x128x128, .i1⟩
  | 91 => ⟨S_, .i32⟩
  | 92 => ⟨S2x4x4x256x256, .f32⟩
  | 93 => ⟨S2x4x4x256, .f32⟩
  | 94 => ⟨S32x2x4x4x128x256, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x2x4x4x128x256, .f32⟩
  | 103 => ⟨S2x4x4x128x256, .f32⟩
  | 104 => ⟨S_, .i32⟩
  | 105 => ⟨S_, .i32⟩
  | 106 => ⟨S_, .i32⟩
  | 107 => ⟨S_, .i32⟩
  | 108 => ⟨S_, .i32⟩
  | 109 => ⟨S1x2x4x4x128x256, .f32⟩
  | 110 => ⟨S2x4x4x128x256, .f32⟩
  | 111 => ⟨S_, .i32⟩
  | 112 => ⟨S_, .i32⟩
  | 113 => ⟨S_, .i32⟩
  | 114 => ⟨S_, .i32⟩
  | 115 => ⟨S_, .i32⟩
  | 116 => ⟨S1x2x4x4x128x256, .f32⟩
  | 117 => ⟨S2x4x4x128x256, .f32⟩
  | 118 => ⟨S_, .i32⟩
  | 119 => ⟨S_, .i32⟩
  | 120 => ⟨S_, .i32⟩
  | 121 => ⟨S_, .i32⟩
  | 122 => ⟨S_, .i32⟩
  | 123 => ⟨S1x2x4x128x16x4, .f32⟩
  | 124 => ⟨S2x4x128x16x4, .f32⟩
  | 125 => ⟨S_, .i32⟩
  | 126 => ⟨S_, .i32⟩
  | 127 => ⟨S_, .i32⟩
  | _ => ⟨S4x4096x2048, .bf16⟩

abbrev hbmTy0_1 (i : Nat) : BufTy := match i % 128 with
  | 0 => ⟨S_, .i32⟩
  | 1 => ⟨S_, .i32⟩
  | 2 => ⟨S1x2x4x16x4x128, .f32⟩
  | 3 => ⟨S2x4x16x4x128, .f32⟩
  | 4 => ⟨S_, .i32⟩
  | 5 => ⟨S_, .i32⟩
  | 6 => ⟨S_, .i32⟩
  | 7 => ⟨S1x2x4x4, .f32⟩
  | 8 => ⟨S2x4x4, .f32⟩
  | 9 => ⟨S2x4x128x3x4, .f32⟩
  | 10 => ⟨S_, .f32⟩
  | 11 => ⟨S2x4x128x4, .f32⟩
  | 12 => ⟨S_, .f32⟩
  | 13 => ⟨S2x4x128x4, .f32⟩
  | 14 => ⟨S2x4x128x4, .f32⟩
  | 15 => ⟨S2x4x4x128, .f32⟩
  | 16 => ⟨S2x4x128x3x4, .f32⟩
  | 17 => ⟨S_, .f32⟩
  | 18 => ⟨S2x4x128x4, .f32⟩
  | 19 => ⟨S_, .f32⟩
  | 20 => ⟨S2x4x128x4, .f32⟩
  | 21 => ⟨S2x4x128x4, .f32⟩
  | 22 => ⟨S2x4x4x128, .f32⟩
  | 23 => ⟨S2x4x128x3x4, .f32⟩
  | 24 => ⟨S_, .f32⟩
  | 25 => ⟨S2x4x128x4, .f32⟩
  | 26 => ⟨S_, .f32⟩
  | 27 => ⟨S2x4x128x4, .f32⟩
  | 28 => ⟨S2x4x128x4, .f32⟩
  | 29 => ⟨S2x4x4x128, .f32⟩
  | 30 => ⟨S2x4x16x4x128, .f32⟩
  | 31 => ⟨S2x4x16x4x128, .f32⟩
  | 32 => ⟨S2x4x4x128x128, .f32⟩
  | 33 => ⟨S2x4x4x128x128, .f32⟩
  | 34 => ⟨S_, .f32⟩
  | 35 => ⟨S_, .f32⟩
  | 36 => ⟨S2x4x4x128x128, .i1⟩
  | 37 => ⟨S2x4x4x128x128, .f32⟩
  | 38 => ⟨S2x4x4x128x128, .f32⟩
  | 39 => ⟨S_, .f32⟩
  | 40 => ⟨S2x4x4x128x128, .f32⟩
  | 41 => ⟨S2x4x4x128x128, .f32⟩
  | 42 => ⟨S2x4x4x128x128, .f32⟩
  | 43 => ⟨S2x4x4x128x256, .f32⟩
  | 44 => ⟨S2x4x4x128x1, .f32⟩
  | 45 => ⟨S2x4x4x128x256, .f32⟩
  | 46 => ⟨S2x4x4x128x256, .f32⟩
  | 47 => ⟨S2x4x4x128x256, .f32⟩
  | 48 => ⟨S2x4x4x128x256, .f32⟩
  | 49 => ⟨S_, .f32⟩
  | 50 => ⟨S2x4x4x128, .f32⟩
  | 51 => ⟨S2x4x4x128, .f32⟩
  | 52 => ⟨S2x4x4x128, .f32⟩
  | 53 => ⟨S2x4x4x128, .f32⟩
  | 54 => ⟨S2x4x4x128, .f32⟩
  | 55 => ⟨S2x4x4x128, .f32⟩
  | 56 => ⟨S_, .f32⟩
  | 57 => ⟨S2x4x4x128, .f32⟩
  | 58 => ⟨S2x4x4x128, .f32⟩
  | 59 => ⟨S2x4x4x128x1, .f32⟩
  | 60 => ⟨S2x4x4x128x256, .f32⟩
  | 61 => ⟨S2x4x4x128x256, .f32⟩
  | 62 => ⟨S2x4x4x1x1, .f32⟩
  | 63 => ⟨S2x4x4x256x256, .f32⟩
  | 64 => ⟨S2x4x4x256x256, .f32⟩
  | 65 => ⟨S2x4x4x128x1, .f32⟩
  | 66 => ⟨S2x4x4x128x256, .f32⟩
  | 67 => ⟨S2x4x4x128x256, .f32⟩
  | 68 => ⟨S2x4x4x256x256, .f32⟩
  | 69 => ⟨S2x4x4x256x256, .f32⟩
  | 70 => ⟨S2x4x4x1, .f32⟩
  | 71 => ⟨S2x4x4x256, .f32⟩
  | 72 => ⟨S2x4x4x256, .f32⟩
  | 73 => ⟨S2x4x4x256, .f32⟩
  | 74 => ⟨S2x4x4x256, .f32⟩
  | 75 => ⟨S1x2x4x4x128x256, .f32⟩
  | 76 => ⟨S_, .i32⟩
  | 77 => ⟨S_, .i32⟩
  | 78 => ⟨S_, .i32⟩
  | 79 => ⟨S_, .i32⟩
  | 80 => ⟨S_, .i32⟩
  | 81 => ⟨S32x2x4x4x128x256, .f32⟩
  | 82 => ⟨S_, .i32⟩
  | 83 => ⟨S_, .i32⟩
  | 84 => ⟨S32x1x4x4x128x256, .f32⟩
  | 85 => ⟨S32x4x4x128x256, .f32⟩
  | 86 => ⟨S4x32x128x4x256, .f32⟩
  | 87 => ⟨S4x4096x1024, .f32⟩
  | 88 => ⟨S4x4096x1024, .bf16⟩
  | 89 => ⟨S32x1x4x4x128x256, .f32⟩
  | 90 => ⟨S32x4x4x128x256, .f32⟩
  | 91 => ⟨S32x4x4x128x256, .f32⟩
  | 92 => ⟨S4x32x128x4x256, .f32⟩
  | 93 => ⟨S4x4096x1024, .f32⟩
  | 94 => ⟨S4x4096x1024, .bf16⟩
  | _ => ⟨S4x4096x2048, .bf16⟩

abbrev hbmTy (i : Nat) : BufTy := match i / 128 with
  | 0 => hbmTy0_0 i
  | 1 => hbmTy0_1 i
  | _ => ⟨S4x4096x2048, .bf16⟩

abbrev bufTy : (tb : Table) → Fin (tcTables nBuf tb) → BufTy
  | .hbm, ⟨i, _⟩ => hbmTy i
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst : Ref sig .tc := ⟨.hbm, 52, rfl⟩
abbrev main_v46 : Ref sig .tc := ⟨.hbm, 53, rfl⟩
abbrev main_cst_0 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_cst_1 : Ref sig .tc := ⟨.hbm, 80, rfl⟩
abbrev main_v72 : Ref sig .tc := ⟨.hbm, 81, rfl⟩
abbrev main_c_2 : Ref sig .tc := ⟨.hbm, 82, rfl⟩
abbrev main_v73_0 : Ref sig .tc := ⟨.hbm, 83, rfl⟩
abbrev main_v73_1 : Ref sig .tc := ⟨.hbm, 84, rfl⟩
abbrev main_v73_2 : Ref sig .tc := ⟨.hbm, 85, rfl⟩
abbrev main_v73_3 : Ref sig .tc := ⟨.hbm, 86, rfl⟩
abbrev main_v73_4 : Ref sig .tc := ⟨.hbm, 87, rfl⟩
abbrev main_v73_5 : Ref sig .tc := ⟨.hbm, 88, rfl⟩
abbrev main_v73_6 : Ref sig .tc := ⟨.hbm, 89, rfl⟩
abbrev main_v73_7 : Ref sig .tc := ⟨.hbm, 90, rfl⟩
abbrev main_v73_8 : Ref sig .tc := ⟨.hbm, 91, rfl⟩
abbrev main_v73_9 : Ref sig .tc := ⟨.hbm, 92, rfl⟩
abbrev main_v73_10 : Ref sig .tc := ⟨.hbm, 93, rfl⟩
abbrev main_v73_11 : Ref sig .tc := ⟨.hbm, 94, rfl⟩
abbrev main_while0c_c_14 : Ref sig .tc := ⟨.hbm, 95, rfl⟩
abbrev main_while0c_v85 : Ref sig .tc := ⟨.hbm, 96, rfl⟩
abbrev main_while0b_call6_c : Ref sig .tc := ⟨.hbm, 97, rfl⟩
abbrev main_while0b_call6_c_0 : Ref sig .tc := ⟨.hbm, 98, rfl⟩
abbrev main_while0b_call6_c_1 : Ref sig .tc := ⟨.hbm, 99, rfl⟩
abbrev main_while0b_call6_c_2 : Ref sig .tc := ⟨.hbm, 100, rfl⟩
abbrev main_while0b_call6_c_3 : Ref sig .tc := ⟨.hbm, 101, rfl⟩
abbrev main_while0b_call6_v0 : Ref sig .tc := ⟨.hbm, 102, rfl⟩
abbrev main_while0b_v85 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_call7_c_3 : Ref sig .tc := ⟨.hbm, 108, rfl⟩
abbrev main_while0b_call7_v0 : Ref sig .tc := ⟨.hbm, 109, rfl⟩
abbrev main_while0b_v86 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_c_2 : Ref sig .tc := ⟨.hbm, 114, rfl⟩
abbrev main_while0b_call8_c_3 : Ref sig .tc := ⟨.hbm, 115, rfl⟩
abbrev main_while0b_call8_v0 : Ref sig .tc := ⟨.hbm, 116, rfl⟩
abbrev main_while0b_v87 : Ref sig .tc := ⟨.hbm, 117, rfl⟩
abbrev main_while0b_call9_c : Ref sig .tc := ⟨.hbm, 118, rfl⟩
abbrev main_while0b_call9_c_0 : Ref sig .tc := ⟨.hbm, 119, rfl⟩
abbrev main_while0b_call9_c_1 : Ref sig .tc := ⟨.hbm, 120, rfl⟩
abbrev main_while0b_call9_c_2 : Ref sig .tc := ⟨.hbm, 121, rfl⟩
abbrev main_while0b_call9_c_3 : Ref sig .tc := ⟨.hbm, 122, rfl⟩
abbrev main_while0b_call9_v0 : Ref sig .tc := ⟨.hbm, 123, rfl⟩
abbrev main_while0b_v88 : Ref sig .tc := ⟨.hbm, 124, rfl⟩
abbrev main_while0b_call10_c : Ref sig .tc := ⟨.hbm, 125, rfl⟩
abbrev main_while0b_call10_c_0 : Ref sig .tc := ⟨.hbm, 126, rfl⟩
abbrev main_while0b_call10_c_1 : Ref sig .tc := ⟨.hbm, 127, rfl⟩
abbrev main_while0b_call10_c_2 : Ref sig .tc := ⟨.hbm, 128, rfl⟩
abbrev main_while0b_call10_c_3 : Ref sig .tc := ⟨.hbm, 129, rfl⟩
abbrev main_while0b_call10_v0 : Ref sig .tc := ⟨.hbm, 130, rfl⟩
abbrev main_while0b_v89 : Ref sig .tc := ⟨.hbm, 131, rfl⟩
abbrev main_while0b_call11_c : Ref sig .tc := ⟨.hbm, 132, rfl⟩
abbrev main_while0b_call11_c_0 : Ref sig .tc := ⟨.hbm, 133, rfl⟩
abbrev main_while0b_call11_c_1 : Ref sig .tc := ⟨.hbm, 134, rfl⟩
abbrev main_while0b_call11_v0 : Ref sig .tc := ⟨.hbm, 135, rfl⟩
abbrev main_while0b_v90 : Ref sig .tc := ⟨.hbm, 136, rfl⟩
abbrev main_while0b_v91 : Ref sig .tc := ⟨.hbm, 137, rfl⟩
abbrev main_while0b_cst_14 : Ref sig .tc := ⟨.hbm, 138, rfl⟩
abbrev main_while0b_v92 : Ref sig .tc := ⟨.hbm, 139, rfl⟩
abbrev main_while0b_cst_15 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_cst_16 : Ref sig .tc := ⟨.hbm, 145, rfl⟩
abbrev main_while0b_v97 : Ref sig .tc := ⟨.hbm, 146, rfl⟩
abbrev main_while0b_cst_17 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_cst_18 : Ref sig .tc := ⟨.hbm, 152, rfl⟩
abbrev main_while0b_v102 : Ref sig .tc := ⟨.hbm, 153, rfl⟩
abbrev main_while0b_cst_19 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_cst_20 : Ref sig .tc := ⟨.hbm, 162, rfl⟩
abbrev main_while0b_call12_v0 : Ref sig .tc := ⟨.hbm, 163, rfl⟩
abbrev main_while0b_call12_v1 : Ref sig .tc := ⟨.hbm, 164, rfl⟩
abbrev main_while0b_call12_v2 : Ref sig .tc := ⟨.hbm, 165, rfl⟩
abbrev main_while0b_v110 : Ref sig .tc := ⟨.hbm, 166, rfl⟩
abbrev main_while0b_cst_21 : Ref sig .tc := ⟨.hbm, 167, rfl⟩
abbrev main_while0b_v111 : Ref sig .tc := ⟨.hbm, 168, rfl⟩
abbrev main_while0b_v112 : Ref sig .tc := ⟨.hbm, 169, rfl⟩
abbrev main_while0b_v113 : Ref sig .tc := ⟨.hbm, 170, rfl⟩
abbrev main_while0b_v114 : Ref sig .tc := ⟨.hbm, 171, rfl⟩
abbrev main_while0b_v115 : Ref sig .tc := ⟨.hbm, 172, rfl⟩
abbrev main_while0b_v116 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_cst_22 : Ref sig .tc := ⟨.hbm, 177, rfl⟩
abbrev main_while0b_v120 : Ref sig .tc := ⟨.hbm, 178, rfl⟩
abbrev main_while0b_v121 : Ref sig .tc := ⟨.hbm, 179, rfl⟩
abbrev main_while0b_v122 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_cst_23 : Ref sig .tc := ⟨.hbm, 184, rfl⟩
abbrev main_while0b_v126 : Ref sig .tc := ⟨.hbm, 185, rfl⟩
abbrev main_while0b_v127 : Ref sig .tc := ⟨.hbm, 186, rfl⟩
abbrev main_while0b_v128 : Ref sig .tc := ⟨.hbm, 187, rfl⟩
abbrev main_while0b_v129 : Ref sig .tc := ⟨.hbm, 188, rfl⟩
abbrev main_while0b_v130 : Ref sig .tc := ⟨.hbm, 189, rfl⟩
abbrev main_while0b_v131 : Ref sig .tc := ⟨.hbm, 190, rfl⟩
abbrev main_while0b_v132 : Ref sig .tc := ⟨.hbm, 191, rfl⟩
abbrev main_while0b_v133 : Ref sig .tc := ⟨.hbm, 192, rfl⟩
abbrev main_while0b_v134 : Ref sig .tc := ⟨.hbm, 193, rfl⟩
abbrev main_while0b_v135 : Ref sig .tc := ⟨.hbm, 194, rfl⟩
abbrev main_while0b_v136 : Ref sig .tc := ⟨.hbm, 195, rfl⟩
abbrev main_while0b_v137 : Ref sig .tc := ⟨.hbm, 196, rfl⟩
abbrev main_while0b_v138 : Ref sig .tc := ⟨.hbm, 197, rfl⟩
abbrev main_while0b_v139 : Ref sig .tc := ⟨.hbm, 198, rfl⟩
abbrev main_while0b_v140 : Ref sig .tc := ⟨.hbm, 199, rfl⟩
abbrev main_while0b_v141 : Ref sig .tc := ⟨.hbm, 200, rfl⟩
abbrev main_while0b_v142 : Ref sig .tc := ⟨.hbm, 201, rfl⟩
abbrev main_while0b_v143 : Ref sig .tc := ⟨.hbm, 202, rfl⟩
abbrev main_while0b_call13_v0 : Ref sig .tc := ⟨.hbm, 203, rfl⟩
abbrev main_while0b_call13_c : Ref sig .tc := ⟨.hbm, 204, rfl⟩
abbrev main_while0b_call13_c_0 : Ref sig .tc := ⟨.hbm, 205, rfl⟩
abbrev main_while0b_call13_c_1 : Ref sig .tc := ⟨.hbm, 206, rfl⟩
abbrev main_while0b_call13_c_2 : Ref sig .tc := ⟨.hbm, 207, rfl⟩
abbrev main_while0b_call13_c_3 : Ref sig .tc := ⟨.hbm, 208, rfl⟩
abbrev main_while0b_v144 : Ref sig .tc := ⟨.hbm, 209, rfl⟩
abbrev main_while0b_c_24 : Ref sig .tc := ⟨.hbm, 210, rfl⟩
abbrev main_while0b_v145 : Ref sig .tc := ⟨.hbm, 211, rfl⟩
abbrev main_v74 : Ref sig .tc := ⟨.hbm, 212, rfl⟩
abbrev main_v75 : Ref sig .tc := ⟨.hbm, 213, rfl⟩
abbrev main_v76 : Ref sig .tc := ⟨.hbm, 214, rfl⟩
abbrev main_v77 : Ref sig .tc := ⟨.hbm, 215, rfl⟩
abbrev main_v78 : Ref sig .tc := ⟨.hbm, 216, rfl⟩
abbrev main_v79 : Ref sig .tc := ⟨.hbm, 217, rfl⟩
abbrev main_v80 : Ref sig .tc := ⟨.hbm, 218, rfl⟩
abbrev main_v81 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x11264 : Shape := ⟨2, ![2048, 11264]⟩
abbrev S16384x11264 : Shape := ⟨2, ![16384, 11264]⟩
abbrev S16384x5632 : Shape := ⟨2, ![16384, 5632]⟩
abbrev S5632x2048 : Shape := ⟨2, ![5632, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x11264, .f32⟩
  | .hbm, ⟨23, _⟩ => ⟨S16384x11264, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S5632x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Kernel3.lean ====
abbrev S4x4096x2048 : Shape := ⟨3, ![4, 4096, 2048]⟩
abbrev S1x2048 : Shape := ⟨2, ![1, 2048]⟩
abbrev S1x2048x11280 : Shape := ⟨3, ![1, 2048, 11280]⟩
abbrev S2048x11280 : Shape := ⟨2, ![2048, 11280]⟩
abbrev S11280x2048 : Shape := ⟨2, ![11280, 2048]⟩
abbrev S4096x2048 : Shape := ⟨2, ![4096, 2048]⟩
abbrev S16x2048 : Shape := ⟨2, ![16, 2048]⟩
abbrev S4x2048 : Shape := ⟨2, ![4, 2048]⟩
abbrev S_ : Shape := ⟨0, ![]⟩
abbrev S128x2048 : Shape := ⟨2, ![128, 2048]⟩
abbrev S256x2048 : Shape := ⟨2, ![256, 2048]⟩
abbrev S16384x2048 : Shape := ⟨2, ![16384, 2048]⟩
abbrev S2048 : Shape := ⟨1, ![2048]⟩
abbrev S16384x11264 : Shape := ⟨2, ![16384, 11264]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S256x1024 : Shape := ⟨2, ![256, 1024]⟩

abbrev nBuf : Space → Nat
  | .hbm => 26
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11280, .f32⟩
  | .hbm, ⟨3, _⟩ => ⟨S2048x11280, .f32⟩
  | .hbm, ⟨4, _⟩ => ⟨S11280x2048, .f32⟩
  | .hbm, ⟨5, _⟩ => ⟨S11280x2048, .bf16⟩
  | .hbm, ⟨6, _⟩ => ⟨S4096x2048, .bf16⟩
  | .hbm, ⟨7, _⟩ => ⟨S16x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S16x2048, .f32⟩
  | .hbm, ⟨13, _⟩ => ⟨S_, .i32⟩
  | .hbm, ⟨14, _⟩ => ⟨S_, .f32⟩
  | .hbm, ⟨15, _⟩ => ⟨S128x2048, .f32⟩
  | .hbm, ⟨16, _⟩ => ⟨S128x2048, .bf16⟩
  | .hbm, ⟨17, _⟩ => ⟨S128x2048, .f32⟩
  | .hbm, ⟨18, _⟩ => ⟨S128x2048, .f32⟩
  | .hbm, ⟨19, _⟩ => ⟨S128x2048, .bf16⟩
  | .hbm, ⟨20, _⟩ => ⟨S256x2048, .bf16⟩
  | .hbm, ⟨21, _⟩ => ⟨S16384x2048, .f32⟩
  | .hbm, ⟨22, _⟩ => ⟨S2048, .f32⟩
  | .hbm, ⟨23, _⟩ => ⟨S1x2048, .f32⟩
  | .hbm, ⟨24, _⟩ => ⟨S16384x11264, .bf16⟩
  | .hbm, ⟨25, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S256x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x4096x2048 : Shape := ⟨3, ![4, 4096, 2048]⟩
abbrev S1x2048 : Shape := ⟨2, ![1, 2048]⟩
abbrev S1x2048x11280 : Shape := ⟨3, ![1, 2048, 11280]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x11280 : Shape := ⟨2, ![2048, 11280]⟩
abbrev S16384x11280 : Shape := ⟨2, ![16384, 11280]⟩
abbrev S16384x4096 : Shape := ⟨2, ![16384, 4096]⟩
abbrev S16384x7168 : Shape := ⟨2, ![16384, 7168]⟩
abbrev S16384x11264 : Shape := ⟨2, ![16384, 11264]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11280, .f32⟩
  | .hbm, ⟨3, _⟩ => ⟨S16384x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x11280, .f32⟩
  | .hbm, ⟨22, _⟩ => ⟨S16384x11280, .f32⟩
  | .hbm, ⟨23, _⟩ => ⟨S16384x4096, .f32⟩
  | .hbm, ⟨24, _⟩ => ⟨S16384x7168, .f32⟩
  | .hbm, ⟨25, _⟩ => ⟨S16384x11264, .f32⟩
  | .hbm, ⟨26, _⟩ => ⟨S16384x11264, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S16384x2048 : Shape := ⟨2, ![16384, 2048]⟩
abbrev S4x16384x256 : Shape := ⟨3, ![4, 16384, 256]⟩
abbrev S16384x1024 : Shape := ⟨2, ![16384, 1024]⟩
abbrev S16384x11264 : Shape := ⟨2, ![16384, 11264]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256x2048 : Shape := ⟨2, ![256, 2048]⟩
abbrev S4x256x256 : Shape := ⟨3, ![4, 256, 256]⟩
abbrev S256x1024 : Shape := ⟨2, ![256, 1024]⟩
abbrev S1x256x256 : Shape := ⟨3, ![1, 256, 256]⟩
abbrev S256x256 : Shape := ⟨2, ![256, 256]⟩

abbrev nBuf : Space → Nat
  | .hbm => 15
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S4x16384x256, .bf16⟩
  | .hbm, ⟨2, _⟩ => ⟨S16384x1024, .bf16⟩
  | .hbm, ⟨3, _⟩ => ⟨S16384x1024, .bf16⟩
  | .hbm, ⟨4, _⟩ => ⟨S16384x11264, .bf16⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S2048x2048, .bf16⟩
  | .hbm, ⟨14, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S4x256x256, .bf16⟩
  | .local _ .vmem, ⟨3, _⟩ => ⟨S4x256x256, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x2048 : Shape := ⟨2, ![16384, 2048]⟩
abbrev S4x16384x256 : Shape := ⟨3, ![4, 16384, 256]⟩
abbrev S16384x1024 : Shape := ⟨2, ![16384, 1024]⟩
abbrev S16384x11264 : Shape := ⟨2, ![16384, 11264]⟩
abbrev S1x1024x2048 : Shape := ⟨3, ![1, 1024, 2048]⟩
abbrev S1x2048x2048 : Shape := ⟨3, ![1, 2048, 2048]⟩
abbrev S16384x4x256 : Shape := ⟨3, ![16384, 4, 256]⟩
abbrev S_ : Shape := ⟨0, ![]⟩
abbrev S1024x2048 : Shape := ⟨2, ![1024, 2048]⟩
abbrev S2048x2048 : Shape := ⟨2, ![2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x16384x256, .bf16⟩
  | .hbm, ⟨2, _⟩ => ⟨S16384x1024, .bf16⟩
  | .hbm, ⟨3, _⟩ => ⟨S16384x1024, .bf16⟩
  | .hbm, ⟨4, _⟩ => ⟨S16384x11264, .bf16⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S4x16384x256, .f32⟩
  | .hbm, ⟨9, _⟩ => ⟨S16384x4x256, .f32⟩
  | .hbm, ⟨10, _⟩ => ⟨S16384x1024, .f32⟩
  | .hbm, ⟨11, _⟩ => ⟨S16384x11264, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S1024x2048, .f32⟩
  | .hbm, ⟨44, _⟩ => ⟨S16384x2048, .f32⟩
  | .hbm, ⟨45, _⟩ => ⟨S16384x2048, .f32⟩
  | .hbm, ⟨46, _⟩ => ⟨S1024x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S2048x2048, .f32⟩
  | .hbm, ⟨51, _⟩ => ⟨S16384x2048, .f32⟩
  | .hbm, ⟨52, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.FfnBody.lean ====
/- The feed-forward call, one grid point at a time: what the body leaves in the output block and in the carried
   normalised rows, each entry a plain expression over the extended reals. -/
module

public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem

/-! ## The mathematics of the block -/

namespace Cert.Ffn

/-- A value read as an extended real. -/
abbrev er (x : EReal) : EReal := x

/-- A row scaled to unit mean square, entry `k`, with the weight `w` of that entry. -/
def nrm (x : Fin 2048 → EReal) (w : EReal) (k : Fin 2048) : EReal :=
  x k * Ideal.rsqrt (Ideal.div (∑ j, x j * x j) (Ideal.ofBits FTy.f32 1157627904#32) + Ideal.ofBits FTy.f32 897988541#32) * w

/-- The gated unit: `g · σ(g) · u`. -/
def swish (g u : EReal) : EReal := g * Ideal.div 1 (1 + Ideal.exp (-g)) * u

theorem swish_zero_sub (g u : EReal) : g * Ideal.div 1 (1 + Ideal.exp (0 - g)) * u = swish g u := by
  rw [swish, zero_sub]

end Cert.Ffn

namespace Cert.Kernel2Ideal.Value

open Cert.Kernel2Ideal Cert.Kernel2Ideal.Gen Cert.Ffn

/-- What one block of 512 hidden units adds to entry `d` of a row whose normalised entries are `h`. -/
def part (h : Fin 2048 → EReal) (wg wu : Vec Ideal S2048x512 .bf16) (wd : Vec Ideal S512x2048 .bf16) (d : Fin 2048) : EReal :=
  ∑ l : Fin 512, swish (∑ k : Fin 2048, h k * (er (wg (ix2 k l)))) (∑ k : Fin 2048, h k * (er (wu (ix2 k l))))
    * (er (wd (ix2 l d)))

/-! ## The body at one grid point -/

/-- At the first hidden block the carried scratch is filled with the normalised rows. -/
theorem soutA_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (r : Fin 1024) (d : Fin 2048) :
    sout0_A_0 c i arg2 harg2 arg3 harg3 arg4 harg4 arg5 harg5 arg6 harg6 arg7 harg7 arg8 harg8 arg9 harg9 hc0 hc1 hc2 x0 x1 x2 x3 x4 x5 (ix2 r d)
      = nrm (fun j => (er (x0 (ix2 r j)))) (er (x1 (ix2 0 d))) d := by
  frame_out
  canon_tiles x h
  all_goals
    change (r : ℕ) = _ at h0; change (d : ℕ) = _ at h1
    pointwise [er, k0_pay20, k0_pay19, k0_pay13, k0_pay12, k0_pay9, k0_pay8, k0_pay5, k0_pay4, nrm]
    blk_point []

/-- At the first hidden block the output holds the row plus that block's part. -/
theorem outA_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (r : Fin 1024) (d : Fin 2048) :
    out0_A_6 c i arg2 harg2 arg3 harg3 arg4 harg4 arg5 harg5 arg6 harg6 arg7 harg7 arg8 harg8 arg9 harg9 hc0 hc1 hc2 x0 x1 x2 x3 x4 x5 (ix2 r d)
      = (er (x0 (ix2 r d))) + part (fun k => nrm (fun j => (er (x0 (ix2 r j)))) (er (x1 (ix2 0 k))) k) x2 x3 x4 d := by
  frame_out
  canon_tiles x h
  all_goals
    change (r : ℕ) = _ at h0; change (d : ℕ) = _ at h1
    unfold_payloads
    pointwise [er, nrm, part, swish]
    simp only [zero_sub]
    blk_point []

/-- At a middle hidden block the output gains that block's part, over the rows carried. -/
theorem outB_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (hc2 : ¬cond0_2 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16) (r : Fin 1024) (d : Fin 2048) :
    out0_B_6 c i arg2 harg2 arg3 harg3 arg4 harg4 arg5 harg5 arg6 harg6 arg7 harg7 arg8 harg8 arg9 harg9 hc0 hc1 hc2 x0 x1 x2 x3 x4 x5 xo6 xs0 (ix2 r d)
      = (er (xo6 (ix2 r d))) + part (fun k => (er (xs0 (ix2 r k)))) x2 x3 x4 d := by
  frame_out
  unfold_payloads
  pointwise [er, part, swish]
  simp only [zero_sub]

/-- A middle hidden block leaves the carried rows alone. -/
theorem soutB_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (hc2 : ¬cond0_2 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16)  :
    sout0_B_0 c i arg2 harg2 arg3 harg3 arg4 harg4 arg5 harg5 arg6 harg6 arg7 harg7 arg8 harg8 arg9 harg9 hc0 hc1 hc2 x0 x1 x2 x3 x4 x5 xo6 xs0
      = xs0 := by
  rfl

/-- The last hidden block leaves the carried rows alone. -/
theorem soutC_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i) (hc2 : cond0_2 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16)  :
    sout0_C_0 c i arg2 harg2 arg3 harg3 arg4 harg4 arg5 harg5 arg6 harg6 arg7 harg7 arg8 harg8 arg9 harg9 hc0 hc1 hc2 x0 x1 x2 x3 x4 x5 xo6 xs0
      = xs0 := by
  rfl

/-- At the last hidden block the output holds the finished row, normalised with the last weight. -/
theorem outC_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i) (hc2 : cond0_2 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16) (r : Fin 1024) (d : Fin 2048) :
    out0_C_6 c i arg2 harg2 arg3 harg3 arg4 harg4 arg5 harg5 arg6 harg6 arg7 harg7 arg8 harg8 arg9 harg9 hc0 hc1 hc2 x0 x1 x2 x3 x4 x5 xo6 xs0 (ix2 r d)
      = nrm (fun j => (er (xo6 (ix2 r j))) + part (fun k => (er (xs0 (ix2 r k)))) x2 x3 x4 j)
          (er (x5 (ix2 0 d))) d := by
  frame_out
  canon_tiles x h
  all_goals
    change (r : ℕ) = _ at h0; change (d : ℕ) = _ at h1
    unfold_payloads
    pointwise [er, nrm, part, swish]
    simp only [zero_sub]
    blk_point []

end Cert.Kernel2Ideal.Value
-- ==== Proof.FfnValue.lean ====
/- The feed-forward call as a whole: the array it leaves is, row by row, the normalised residual sum over all 5632
   hidden units. -/
module

public import proofs.«01_k».proof.Proof.FfnBody
public import Idealize.ShloMosaic.Lib.Claim

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Ffn

/-! ## The mathematics over the whole arrays -/

/-- Row `i` of `X`, normalised, entry `k`. -/
def hrow (X : FVec Ideal S16384x2048 .f32) (N2 : FVec Ideal S1x2048 .f32) (i : Fin 16384) (k : Fin 2048) : EReal :=
  nrm (fun j => X (ix2 i j)) (N2 (ix2 0 k)) k

/-- What hidden unit `l` adds to entry `d` of a row whose normalised entries are `h`. -/
def unit (h : Fin 2048 → EReal) (GU : FVec Ideal S1x2048x11264 .f32) (WD : FVec Ideal S1x5632x2048 .f32) (d : Fin 2048)
    (l : Fin 5632) : EReal :=
  swish (∑ k : Fin 2048, h k * GU (ix3 0 k ⟨l, by omega⟩)) (∑ k : Fin 2048, h k * GU (ix3 0 k ⟨5632 + l, by omega⟩))
    * WD (ix3 0 l d)

/-- The row before its last normalisation. -/
def yrow (X : FVec Ideal S16384x2048 .f32) (N2 : FVec Ideal S1x2048 .f32) (GU : FVec Ideal S1x2048x11264 .f32)
    (WD : FVec Ideal S1x5632x2048 .f32) (i : Fin 16384) (d : Fin 2048) : EReal :=
  X (ix2 i d) + ∑ l : Fin 5632, unit (hrow X N2 i) GU WD d l

/-- The feed-forward layer and the last normalisation. -/
def ffn (X : FVec Ideal S16384x2048 .f32) (N2 : FVec Ideal S1x2048 .f32) (GU : FVec Ideal S1x2048x11264 .f32)
    (WD : FVec Ideal S1x5632x2048 .f32) (NF : FVec Ideal S2048 .f32) : FVec Ideal S16384x2048 .f32 :=
  fun j => nrm (yrow X N2 GU WD (j 0)) (NF (ix1 (j 1))) (j 1)

/-- The part of hidden block `s` (of 11, taken modulo 11 so that every number names a block). -/
def blockPart (h : Fin 2048 → EReal) (GU : FVec Ideal S1x2048x11264 .f32) (WD : FVec Ideal S1x5632x2048 .f32) (d : Fin 2048)
    (s : ℕ) : EReal :=
  ∑ l : Fin 512, unit h GU WD d ⟨s % 11 * 512 + l, by omega⟩

/-- The eleven blocks together are all hidden units. -/
theorem sum_blockPart (h : Fin 2048 → EReal) (GU : FVec Ideal S1x2048x11264 .f32) (WD : FVec Ideal S1x5632x2048 .f32)
    (d : Fin 2048) : ∑ s ∈ Finset.range 11, blockPart h GU WD d s = ∑ l : Fin 5632, unit h GU WD d l := by
  rw [Finset.sum_range]
  unfold blockPart
  refine Fin.sum_mul_add_congr fun s k hl => ?_
  congr 1
  apply Fin.ext
  show (s : ℕ) % 11 * 512 + k = s * 512 + k
  rw [Nat.mod_eq_of_lt s.isLt]

/-! ## The blocks the body reads -/

variable (m : (ℓ : Loc nD τ sig) → Buf (Elt Ideal) ℓ)

theorem idx : ∀ t : Fin cfg0.N, win0_0.index t = ![t.val / 11, 0] ∧ win0_1.index t = ![0, 0] ∧ win0_2.index t = ![0, t.val % 11]
    ∧ win0_3.index t = ![0, 11 + t.val % 11] ∧ win0_4.index t = ![t.val % 11, 0] ∧ win0_5.index t = ![0, 0]
    ∧ win0_6.index t = ![t.val / 11, 0] :=
  (by decide +kernel : ∀ t : Fin grid0.N, _)

abbrev aX (c : Dev nD) : FVec Ideal S16384x2048 .f32 := m ((c : Thread nD τ).loc main_arg0)
abbrev aN2 (c : Dev nD) : FVec Ideal S1x2048 .f32 := m ((c : Thread nD τ).loc main_arg1)
abbrev aGU (c : Dev nD) : FVec Ideal S1x2048x11264 .f32 := m ((c : Thread nD τ).loc main_arg2)
abbrev aWD (c : Dev nD) : FVec Ideal S1x5632x2048 .f32 := m ((c : Thread nD τ).loc main_arg3)
abbrev aNF (c : Dev nD) : FVec Ideal S2048 .f32 := m ((c : Thread nD τ).loc main_arg4)

theorem blk0 (c : Dev nD) (t : Fin cfg0.N) (r : Fin 1024) (j : Fin 2048) (i : Fin 16384) (hi : (i : ℕ) = t.val / 11 * 1024 + r) :
    iblk m c 0 t (ix2 r j) = aX m c (ix2 i j) := by
  blk_point [iblk, V, idx t]

theorem blk1 (c : Dev nD) (t : Fin cfg0.N) (k : Fin 2048) :
    iblk m c 1 t (ix2 0 k) = aN2 m c (ix2 0 k) := by
  blk_point [iblk, V, idx t]

theorem blk5 (c : Dev nD) (t : Fin cfg0.N) (k : Fin 2048) :
    iblk m c 5 t (ix2 0 k) = aNF m c (ix1 k) := by
  blk_point [iblk, V, idx t]

/-- The gate and up weights, as the call receives them, are the argument's. -/
theorem V3_at (c : Dev nD) (k : Fin 2048) (l : Fin 11264) :
    V m c main_v3 (ix2 k l) = aGU m c (ix3 0 k l) := by
  entry_read
  pointwise

/-- The down weights, as the call receives them, are the argument's. -/
theorem V5_at (c : Dev nD) (l : Fin 5632) (d : Fin 2048) :
    V m c main_v5 (ix2 l d) = aWD m c (ix3 0 l d) := by
  entry_read
  pointwise

theorem blk2 (c : Dev nD) (t : Fin cfg0.N) (k : Fin 2048) (l : Fin 512) (q : Fin 11264) (hq : (q : ℕ) = t.val % 11 * 512 + l) :
    iblk m c 2 t (ix2 k l) = aGU m c (ix3 0 k q) := by
  refine Eq.trans ?_ (V3_at m c k q)
  blk_ext [iblk, idx t]

theorem blk3 (c : Dev nD) (t : Fin cfg0.N) (k : Fin 2048) (l : Fin 512) (q : Fin 11264)
    (hq : (q : ℕ) = 5632 + (t.val % 11 * 512 + l)) :
    iblk m c 3 t (ix2 k l) = aGU m c (ix3 0 k q) := by
  refine Eq.trans ?_ (V3_at m c k q)
  blk_ext [iblk, idx t]

theorem blk4 (c : Dev nD) (t : Fin cfg0.N) (l : Fin 512) (d : Fin 2048) (q : Fin 5632) (hq : (q : ℕ) = t.val % 11 * 512 + l) :
    iblk m c 4 t (ix2 l d) = aWD m c (ix3 0 q d) := by
  refine Eq.trans ?_ (V5_at m c q d)
  blk_ext [iblk, idx t]

/-- At a point the body adds the part of that point's hidden block. -/
theorem part_eq (c : Dev nD) (t : Fin cfg0.N) (h : Fin 2048 → EReal) (d : Fin 2048) :
    part h (iblk m c 2 t) (iblk m c 3 t) (iblk m c 4 t) d = blockPart h (aGU m c) (aWD m c) d (t.val % 11) := by
  unfold part blockPart unit
  refine Finset.sum_congr rfl fun l _ => ?_
  have hl := l.isLt
  congr 1
  · congr 1
    · exact Finset.sum_congr rfl fun k _ => congrArg (h k * ·) (blk2 m c t k l _ (by simp))
    · exact Finset.sum_congr rfl fun k _ => congrArg (h k * ·) (blk3 m c t k l _ (by simp))
  · exact blk4 m c t l d _ (by simp)

/-! ## What the points leave -/

theorem hrow_blk (c : Dev nD) (t : Fin cfg0.N) (r : Fin 1024) (i : Fin 16384) (hi : (i : ℕ) = t.val / 11 * 1024 + r)
    (k : Fin 2048) : nrm (fun j => (er (iblk m c 0 t (ix2 r j)))) (er (iblk m c 1 t (ix2 0 k))) k
      = hrow (aX m c) (aN2 m c) i k := by
  unfold hrow
  rw [blk1 m c t k, funext fun j => blk0 m c t r j i hi]

/-- After the first hidden block of a row block: the normalised rows, and the row plus that block's part. -/
theorem first (c : Dev nD) (t : Fin cfg0.N) (r : Fin 1024) (i : Fin 16384) (hi : (i : ℕ) = t.val / 11 * 1024 + r)
    (h0 : t.val % 11 = 0) :
    (∀ k, (outsAt0 m c t.val t.isLt).2 (ix2 r k) = hrow (aX m c) (aN2 m c) i k)
    ∧ (t.val % 11 < 10 → ∀ d, (outsAt0 m c t.val t.isLt).1 (ix2 r d) = aX m c (ix2 i d)
        + ∑ s ∈ Finset.range (t.val % 11 + 1), blockPart (hrow (aX m c) (aN2 m c) i) (aGU m c) (aWD m c) d s)
    ∧ (t.val % 11 = 10 → ∀ d, (outsAt0 m c t.val t.isLt).1 (ix2 r d)
        = nrm (yrow (aX m c) (aN2 m c) (aGU m c) (aWD m c) i) (aNF m c (ix1 d)) d) := by
  have hA := outsAt0_A m c t h0 (by omega) (by omega)
  refine ⟨fun k => ?_, fun _ d => ?_, fun h => absurd h (by omega)⟩
  · rw [hA, ← hrow_blk m c t r i hi k]
    dsimp only
    rw [soutA_at]
  · rw [hA]
    dsimp only
    rw [outA_at, funext fun k => hrow_blk m c t r i hi k, part_eq m c, h0, blk0 m c t r d i hi]
    simp only [zero_add, Finset.sum_range_one]

/-- After point `n` the carried rows are the normalised rows of that row block, and before the last hidden block the
    output holds the row plus the parts of the hidden blocks met so far; after the last, the finished row. -/
theorem outs_eq (c : Dev nD) : ∀ (n : ℕ) (hn : n < cfg0.N) (r : Fin 1024) (i : Fin 16384), (i : ℕ) = n / 11 * 1024 + r →
    (∀ k, (outsAt0 m c n hn).2 (ix2 r k) = hrow (aX m c) (aN2 m c) i k)
    ∧ (n % 11 < 10 → ∀ d, (outsAt0 m c n hn).1 (ix2 r d) = aX m c (ix2 i d)
        + ∑ s ∈ Finset.range (n % 11 + 1), blockPart (hrow (aX m c) (aN2 m c) i) (aGU m c) (aWD m c) d s)
    ∧ (n % 11 = 10 → ∀ d, (outsAt0 m c n hn).1 (ix2 r d)
        = nrm (yrow (aX m c) (aN2 m c) (aGU m c) (aWD m c) i) (aNF m c (ix1 d)) d) := by
  intro n
  induction n with
  | zero =>
    intro hn r i hi
    exact first m c ⟨0, hn⟩ r i hi rfl
  | succ n ih =>
    intro hn r i hi
    by_cases h0 : (n + 1) % 11 = 0
    · exact first m c ⟨n + 1, hn⟩ r i hi h0
    · obtain ⟨e2, e1, -⟩ := ih (Nat.lt_of_succ_lt hn) r i (by omega)
      have hd : (n + 1) % 11 = n % 11 + 1 := by omega
      by_cases h2 : (n + 1) % 11 = 10
      · have hC := outsAt0_C m c ⟨n + 1, hn⟩ h0 (by dsimp only; omega) h2
        refine ⟨fun k => ?_, fun h => absurd h2 (by omega), fun _ d => ?_⟩
        · rw [hC]
          exact e2 k
        · rw [hC]
          dsimp only
          rw [outC_at, blk5 m c _ d]
          congr 1
          funext j
          rw [part_eq m c, yrow, ← sum_blockPart]
          show (er ((outsAt0 m c n _).1 (ix2 r j))) + blockPart (fun k => (er ((outsAt0 m c n _).2 (ix2 r k)))) _ _ j ((n + 1) % 11) = _
          rw [e1 (by omega) j, funext e2, add_assoc, hd, show n % 11 = 9 by omega, ← Finset.sum_range_succ]
      · have hB := outsAt0_B m c ⟨n + 1, hn⟩ h0 (by dsimp only; omega) h2
        refine ⟨fun k => ?_, fun _ d => ?_, fun h => absurd h h2⟩
        · rw [hB]
          exact e2 k
        · rw [hB]
          dsimp only
          rw [outB_at, part_eq m c]
          show (er ((outsAt0 m c n _).1 (ix2 r d))) + blockPart (fun k => (er ((outsAt0 m c n _).2 (ix2 r k)))) _ _ d ((n + 1) % 11) = _
          rw [e1 (by omega) d, funext e2, add_assoc, hd, ← Finset.sum_range_succ]

/-- The result array of the call is the feed-forward layer of its arguments. -/
theorem final (c : Dev nD) : (dats m 0 c).arrAt 6 (cfgs 0).N = ffn (aX m c) (aN2 m c) (aGU m c) (aWD m c) (aNF m c) := by
  refine (dats m 0 c).arrAt_eq_of_covers 6 _ (by decide +kernel) fun t hf y => ?_
  blk_simp
  rw [after0_6]
  have h10 : t.val % 11 = 10 := (flush0_6 t).mp hf
  have ht : t.val < 176 := lt_of_lt_of_eq t.isLt N_0
  obtain ⟨r, d, rfl⟩ : ∃ (r : Fin 1024) (d : Fin 2048), y = ix2 r d := ⟨y 0, y 1, eq_ix2 y⟩
  have hi : t.val / 11 * 1024 + (r : ℕ) < 16384 := by omega
  refine ((outs_eq m c t.val t.isLt r ⟨_, hi⟩ rfl).2.2 h10 d).trans ?_
  have he : (((cfg0.win 6).blk t).view.emb (ix2 r d) : S16384x2048.Idx) = ix2 ⟨t.val / 11 * 1024 + (r : ℕ), hi⟩ d := by
    blk_ext [idx t]
  rw [he]
  rfl

end Cert.Kernel2Ideal.Value
-- ==== Proof.FfnRef.lean ====
/- The plain feed-forward layer, read entry by entry. -/
module

public import proofs.«01_k».proof.Proof.FfnValue
public import proofs.«01_k».proof.Proof.Gen.Reference2Ideal.Run
public import proofs.«01_k».proof.Defs

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Ffn Cert.Kernel2Ideal.Value

/-- The rows of an array normalised, as the host operations write it. -/
def rms (x : FVec Ideal S16384x2048 .f32) (w : FVec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32)
      reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 w))

theorem rms_at (x : FVec Ideal S16384x2048 .f32) (w : FVec Ideal S2048 .f32) (i : Fin 16384) (k : Fin 2048) :
    rms x w (ix2 i k) = nrm (fun j => x (ix2 i j)) (w (ix1 k)) k := by
  pointwise [rms, nrm]

/-- The gated units of an array of gate and up columns, as the host operations write it. -/
def act (gu : FVec Ideal S16384x11264 .f32) : FVec Ideal S16384x5632 .f32 :=
  mulf (mulf (extractStridedSlice S16384x5632 ![0, 0] gu slices_S16384x11264_S16384x5632_0_0)
    (Host.divf (broadcastInDim S16384x5632 ![] bcast_S_S16384x5632 (constant S_ .f32 0x3F800000#32))
      (addf (broadcastInDim S16384x5632 ![] bcast_S_S16384x5632 (constant S_ .f32 0x3F800000#32))
        (Host.exp (Host.negf (extractStridedSlice S16384x5632 ![0, 0] gu slices_S16384x11264_S16384x5632_0_0))))))
    (extractStridedSlice S16384x5632 ![0, 5632] gu slices_S16384x11264_S16384x5632_0_5632)

theorem act_at (gu : FVec Ideal S16384x11264 .f32) (i : Fin 16384) (l : Fin 5632) :
    act gu (ix2 i l) = swish (gu (ix2 i ⟨l, by omega⟩)) (gu (ix2 i ⟨5632 + l, by omega⟩)) := by
  pointwise [act, swish]

/-- The layer from its parts. -/
def layer (x : FVec Ideal S16384x2048 .f32) (n2 : FVec Ideal S1x2048 .f32) (gu : FVec Ideal S1x2048x11264 .f32)
    (wd : FVec Ideal S1x5632x2048 .f32) (nf : FVec Ideal S2048 .f32) : FVec Ideal S16384x2048 .f32 :=
  rms (addf x (Host.dotGeneral dot_S16384x5632_S5632x2048_S16384x2048_1_0_0_1_n_n none
    (act (Host.dotGeneral dot_S16384x2048_S2048x11264_S16384x11264_1_0_0_1_n_n none
      (rms x (shapeCast S2048 n2 shapeCasts_S1x2048_S2048)) (shapeCast S2048x11264 gu shapeCasts_S1x2048x11264_S2048x11264)))
    (shapeCast S5632x2048 wd shapeCasts_S1x5632x2048_S5632x2048))) nf

theorem layer_eq (x : FVec Ideal S16384x2048 .f32) (n2 : FVec Ideal S1x2048 .f32) (gu : FVec Ideal S1x2048x11264 .f32)
    (wd : FVec Ideal S1x5632x2048 .f32) (nf : FVec Ideal S2048 .f32) : layer x n2 gu wd nf = ffn x n2 gu wd nf := by
  funext j
  obtain ⟨i, d, rfl⟩ : ∃ (i : Fin 16384) (d : Fin 2048), j = ix2 i d := ⟨j 0, j 1, eq_ix2 j⟩
  unfold layer ffn
  rw [rms_at]
  show nrm _ _ d = nrm (yrow x n2 gu wd i) (nf (ix1 d)) d
  congr 1
  funext e
  unfold yrow unit hrow
  pointwise [act_at, rms_at]

theorem res_eq (m : (ℓ : Loc nD τ sig) → Buf (Elt Ideal) ℓ) (c : Dev nD) :
    res_main_v35 m c = ffn (m ((c : Thread nD τ).loc main_arg0)) (m ((c : Thread nD τ).loc main_arg1))
      (m ((c : Thread nD τ).loc main_arg2)) (m ((c : Thread nD τ).loc main_arg3)) (m ((c : Thread nD τ).loc main_arg4)) := by
  rw [← layer_eq]
  rfl

end Cert.Reference2Ideal.Value

namespace Cert.Proof

/-- Over the reals the feed-forward call and the plain layer return the same array. -/
theorem ffn_algebraic : Cert.algebraic_Kernel2Ideal_Reference2Ideal := by
  pair_intro
  · run_from Cert.Kernel2Ideal.Gen.run_main m g
  · run_from Cert.Reference2Ideal.Value.run m' g'
    rw [Cert.Kernel2Ideal.Value.final m c, Cert.Reference2Ideal.Value.res_eq m' c]
    obtain ⟨h0, h1, h2, h3, h4⟩ := hagree c
    rw [h0, h1, h2, h3, h4]

end Cert.Proof
-- ==== Proof.InprojIdealRun.lean ====
/- The input projection's body in the program over the extended reals, run once for each of the three ways its conditionals
   fall: the first column block of a row block (A: the rows are normalised, stored in the scratch, and multiplied with
   the gate columns and the first block of columns), the next three (B: the carried rows against a block of the merge
   gates' columns) and the last seven (C: the carried rows against a block of the remaining columns). -/
module

public import proofs.«01_k».proof.Proof.Gen.Kernel3Ideal.Skeleton
public import proofs.«01_k».proof.Proof.Gen.Kernel3Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Assertions over the machine's resources. -/
abbrev Asrt (F : FTy → Type) : Type := sProp (MT nD τ sig Unit (Elt F) ℕ (UR sig nD τ) ℕ)

/-! ## The conditions -/

/-- The first column block of a row block. -/
abbrev cond0_0 (i : grid0.Coords) : Prop := k0_cond1 i = 1#1
/-- A later column block of the merge gates. -/
abbrev cond0_1 (i : grid0.Coords) : Prop := k0_cond2 i = 1#1
/-- A block of the remaining columns. -/
abbrev cond0_2 (i : grid0.Coords) : Prop := k0_cond3 i = 1#1

theorem hcond0_0 : ∀ t : Fin cfg0.N, cond0_0 (grid0.coords t) ↔ t.val % 11 = 0 :=
  (by decide +kernel : ∀ t : Fin grid0.N, cond0_0 (grid0.coords t) ↔ t.val % 11 = 0)
theorem hcond0_1 : ∀ t : Fin cfg0.N, cond0_1 (grid0.coords t) ↔ (1 ≤ t.val % 11 ∧ t.val % 11 ≤ 3) :=
  (by decide +kernel : ∀ t : Fin grid0.N, cond0_1 (grid0.coords t) ↔ (1 ≤ t.val % 11 ∧ t.val % 11 ≤ 3))
theorem hcond0_2 : ∀ t : Fin cfg0.N, cond0_2 (grid0.coords t) ↔ 4 ≤ t.val % 11 :=
  (by decide +kernel : ∀ t : Fin grid0.N, cond0_2 (grid0.coords t) ↔ 4 ≤ t.val % 11)

/-! ## The body's three runs -/

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S256x2048 .bf16) (harg6 : arg6.IsWhole) (arg7 : Memref sig .tc .vmem S1024x1024 .bf16) (harg7 : arg7.IsWhole)
  (arg8 : Memref sig .tc .vmem S1024x128 .f32) (harg8 : arg8.IsWhole) (arg9 : Memref sig .tc .vmem S1024x2048 .bf16) (harg9 : arg9.IsWhole)

set_option maxHeartbeats 1000000 in
/-- Case A: the pieces the body leaves in the two outputs and in the scratch, with the proof that it leaves them. -/
noncomputable def kernelRun0_A (hc0 : cond0_0 i) (hc1 : ¬cond0_1 i) (hc2 : ¬cond0_2 i)
    (x0 : Vec F S1024x2048 .f32) (x1 : Vec F S1x2048 .f32) (x2 : Vec F S1024x2048 .bf16) (x3 : Vec F S1024x2048 .bf16) (x4 : Vec F S256x2048 .bf16) :
    Σ' (L5 : List (View.Piece (Elt F) S1024x1024 .bf16)) (L6 : List (View.Piece (Elt F) S1024x128 .f32)), { LS0 : List (View.Piece (Elt F) S1024x2048 .bf16) //
      ∀ (E : Set ℕ) (K : PUnit → Asrt F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- Case B: the piece the body leaves in the first output; the second output and the scratch stay as they were. -/
noncomputable def kernelRun0_B (hc0 : ¬cond0_0 i) (hc1 : cond0_1 i) (hc2 : ¬cond0_2 i)
    (x2 : Vec F S1024x2048 .bf16) (xs0 : Vec F S1024x2048 .bf16) :
    { L5 : List (View.Piece (Elt F) S1024x1024 .bf16) //
      ∀ (E : Set ℕ) (K : PUnit → Asrt F),
        iprop(owns (c : Thread nD τ) arg4 fullShare x2 ∗ (∃ d, owns (c : Thread nD τ) arg7 fullShare d) ∗ owns (c : Thread nD τ) arg9 fullShare xs0
            ∗ (iprop(owns (c : Thread nD τ) arg4 fullShare x2 ∗ (∃ f, arg7.view.loc (c : Thread nD τ) ↦[arg7.view.set]{fullShare} arg7.view.writes (Elt F) f L5) ∗ owns (c : Thread nD τ) arg9 fullShare xs0) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, fun E K => ?run⟩
  case run =>
    simp only [cc0_inproj_eq_skeleton]; unfold cc0_inproj_skel
    unfold owns
    iintro ⟨⟨%f2, %hf2, H2⟩, ⟨%d5, %f5, -, H5⟩, ⟨%fs0, %hfs0, HS0⟩, Hk⟩
    obtain rfl := harg4.eq_unread hf2; obtain rfl := harg9.eq_unread hfs0
    sl_exec (disch := first | sl_exact hc0 | sl_exact hc1 | sl_exact hc2)
    sl_step
    iapply Hk
    isplitl [H2]
    · iexists _; isplitr; · ipureintro; exact harg4.read_unread _
      iexact H2
    isplitl [H5]; · iexists _; iexact H5
    iexists _; isplitr; · ipureintro; exact harg9.read_unread _
    iexact HS0

set_option maxHeartbeats 1000000 in
/-- Case C: as case B, against the other weight block. -/
noncomputable def kernelRun0_C (hc0 : ¬cond0_0 i) (hc1 : ¬cond0_1 i) (hc2 : cond0_2 i)
    (x3 : Vec F S1024x2048 .bf16) (xs0 : Vec F S1024x2048 .bf16) :
    { L5 : List (View.Piece (Elt F) S1024x1024 .bf16) //
      ∀ (E : Set ℕ) (K : PUnit → Asrt F),
        iprop(owns (c : Thread nD τ) arg5 fullShare x3 ∗ (∃ d, owns (c : Thread nD τ) arg7 fullShare d) ∗ owns (c : Thread nD τ) arg9 fullShare xs0
            ∗ (iprop(owns (c : Thread nD τ) arg5 fullShare x3 ∗ (∃ f, arg7.view.loc (c : Thread nD τ) ↦[arg7.view.set]{fullShare} arg7.view.writes (Elt F) f L5) ∗ owns (c : Thread nD τ) arg9 fullShare xs0) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, fun E K => ?run⟩
  case run =>
    simp only [cc0_inproj_eq_skeleton]; unfold cc0_inproj_skel
    unfold owns
    iintro ⟨⟨%f3, %hf3, H3⟩, ⟨%d5, %f5, -, H5⟩, ⟨%fs0, %hfs0, HS0⟩, Hk⟩
    obtain rfl := harg5.eq_unread hf3; obtain rfl := harg9.eq_unread hfs0
    sl_exec (disch := first | sl_exact hc0 | sl_exact hc1 | sl_exact hc2)
    sl_step
    iapply Hk
    isplitl [H3]
    · iexists _; isplitr; · ipureintro; exact harg5.read_unread _
      iexact H3
    isplitl [H5]; · iexists _; iexact H5
    iexists _; isplitr; · ipureintro; exact harg9.read_unread _
    iexact HS0

end Cert.Kernel3Ideal.Gen

end
-- ==== Proof.InprojIdealFrame.lean ====
/- The input projection in the program over the extended reals: what its buffers hold after each grid point, and the run of
   the whole call. The second output (the gate columns) is stored at the first of a row block's eleven points and
   written back after the last, untouched between; the scratch holds the row block's normalised rows throughout. -/
module

public import proofs.«01_k».proof.Proof.InprojIdealRun
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a run leaves -/

/-- The buffers through which contents are stated. -/
abbrev VO0_5 : View sig .tc .vmem S1024x1024 .bf16 := (Memref.whole cc0_stg5_0 : Memref sig .tc .vmem S1024x1024 .bf16).view
abbrev VO0_6 : View sig .tc .vmem S1024x128 .f32 := (Memref.whole cc0_stg6_0 : Memref sig .tc .vmem S1024x128 .f32).view
abbrev scM0_0 : Memref sig .tc .vmem S1024x2048 .bf16 := Memref.whole cc0_scratch0
abbrev VS0_0 : View sig .tc .vmem S1024x2048 .bf16 := scM0_0.view

section Body

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S256x2048 .bf16) (harg6 : arg6.IsWhole) (arg7 : Memref sig .tc .vmem S1024x1024 .bf16) (harg7 : arg7.IsWhole)
  (arg8 : Memref sig .tc .vmem S1024x128 .f32) (harg8 : arg8.IsWhole) (arg9 : Memref sig .tc .vmem S1024x2048 .bf16) (harg9 : arg9.IsWhole)

section A

variable (hc0 : cond0_0 i) (hc1 : ¬cond0_1 i) (hc2 : ¬cond0_2 i)
  (x0 : Vec F S1024x2048 .f32) (x1 : Vec F S1x2048 .f32) (x2 : Vec F S1024x2048 .bf16) (x3 : Vec F S1024x2048 .bf16) (x4 : Vec F S256x2048 .bf16)

theorem cover0_A_5 (y : S1024x1024.Idx) :
    ∃ pc ∈ (kernelRun0_A c i arg2 harg2 arg3 harg3 arg4 harg4 arg5 harg5 arg6 harg6 arg7 harg7 arg8 harg8 arg9 harg9 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4).1 S256x1024.size (by sl_kernel_rfl) y

theorem cover0_A_6 (y : S1024x128.Idx) :
    ∃ pc ∈ (kernelRun0_A c i arg2 harg2 arg3 harg3 arg4 harg4 arg5 harg5 arg6 harg6 arg7 harg7 arg8 harg8 arg9 harg9 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4).2.1 S256x128.size (by sl_kernel_rfl) y

theorem scover0_A_0 (y : S1024x2048.Idx) :
    ∃ pc ∈ (kernelRun0_A c i arg2 harg2 arg3 harg3 arg4 harg4 arg5 harg5 arg6 harg6 arg7 harg7 arg8 harg8 arg9 harg9 hc0 hc1 hc2 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4).2.2.1 S256x2048.size (by sl_kernel_rfl) y

/-- The first output after case A. -/
def out0_A_5 : Vec F S1024x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 hc2 x0 x1 x2 x3 x4).1)

/-- The second output after case A. -/
def out0_A_6 : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 hc2 x0 x1 x2 x3 x4).2.1)

/-- The scratch after case A. -/
def sout0_A_0 : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 x0 x1 x2 x3 x4).2.2.1)

end A

section B

variable (hc0 : ¬cond0_0 i) (hc1 : cond0_1 i) (hc2 : ¬cond0_2 i) (x2 : Vec F S1024x2048 .bf16) (xs0 : Vec F S1024x2048 .bf16)

theorem cover0_B_5 (y : S1024x1024.Idx) :
    ∃ pc ∈ (kernelRun0_B c i arg2 harg2 arg3 harg3 arg4 harg4 arg5 harg5 arg6 harg6 arg7 harg7 arg8 harg8 arg9 harg9 hc0 hc1 hc2 x2 xs0).1, y ∈ pc.1.set :=
  View.cover_of_tiledL (kernelRun0_B c i arg2 harg2 arg3 harg3 arg4 harg4 arg5 harg5 arg6 harg6 arg7 harg7 arg8 harg8 arg9 harg9 hc0 hc1 hc2 x2 xs0).1 S1024x1024.size (by sl_kernel_rfl) y

/-- The first output after case B. -/
def out0_B_5 : Vec F S1024x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 hc2 x2 xs0).1)

end B

section C

variable (hc0 : ¬cond0_0 i) (hc1 : ¬cond0_1 i) (hc2 : cond0_2 i) (x3 : Vec F S1024x2048 .bf16) (xs0 : Vec F S1024x2048 .bf16)

theorem cover0_C_5 (y : S1024x1024.Idx) :
    ∃ pc ∈ (kernelRun0_C c i arg2 harg2 arg3 harg3 arg4 harg4 arg5 harg5 arg6 harg6 arg7 harg7 arg8 harg8 arg9 harg9 hc0 hc1 hc2 x3 xs0).1, y ∈ pc.1.set :=
  View.cover_of_tiledL (kernelRun0_C c i arg2 harg2 arg3 harg3 arg4 harg4 arg5 harg5 arg6 harg6 arg7 harg7 arg8 harg8 arg9 harg9 hc0 hc1 hc2 x3 xs0).1 S1024x1024.size (by sl_kernel_rfl) y

/-- The first output after case C. -/
def out0_C_5 : Vec F S1024x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 hc2 x3 xs0).1)

end C

end Body

/-! ## The points -/

variable (m : (ℓ : Loc nD τ sig) → Buf (Elt F) ℓ) (ρ : Dev nD → PrngReg)

theorem lt176 (t : Fin cfg0.N) : t.val < 176 := lt_of_lt_of_eq t.isLt (show cfg0.N = 176 from N_0)

/-- The first point of the row block of `t`. -/
def first (t : Fin cfg0.N) : Fin cfg0.N := ⟨11 * (t.val / 11), by have := t.isLt; omega⟩

theorem first_mod (t : Fin cfg0.N) : (first t).val % 11 = 0 := Nat.mul_mod_right 11 _

theorem first_self (t : Fin cfg0.N) (h0 : t.val % 11 = 0) : first t = t := Fin.ext (by show 11 * (t.val / 11) = t.val; omega)

theorem first_pred (t : Fin cfg0.N) (h0 : ¬t.val % 11 = 0) (h : t.val - 1 < cfg0.N) : first ⟨t.val - 1, h⟩ = first t :=
  Fin.ext (by show 11 * ((t.val - 1) / 11) = 11 * (t.val / 11); omega)

theorem cA0 (t : Fin cfg0.N) (h0 : t.val % 11 = 0) : cond0_0 (grid0.coords t) := (hcond0_0 t).mpr h0
theorem cA1 (t : Fin cfg0.N) (h0 : t.val % 11 = 0) : ¬cond0_1 (grid0.coords t) := fun h => by have := (hcond0_1 t).mp h; omega
theorem cA2 (t : Fin cfg0.N) (h0 : t.val % 11 = 0) : ¬cond0_2 (grid0.coords t) := fun h => by have := (hcond0_2 t).mp h; omega
theorem cN0 (t : Fin cfg0.N) (h0 : ¬t.val % 11 = 0) : ¬cond0_0 (grid0.coords t) := fun h => h0 ((hcond0_0 t).mp h)
theorem cB1 (t : Fin cfg0.N) (h0 : ¬t.val % 11 = 0) (h1 : t.val % 11 ≤ 3) : cond0_1 (grid0.coords t) := (hcond0_1 t).mpr (by omega)
theorem cB2 (t : Fin cfg0.N) (h1 : t.val % 11 ≤ 3) : ¬cond0_2 (grid0.coords t) := fun h => by have := (hcond0_2 t).mp h; omega
theorem cC1 (t : Fin cfg0.N) (h1 : ¬t.val % 11 ≤ 3) : ¬cond0_1 (grid0.coords t) := fun h => by have := (hcond0_1 t).mp h; omega
theorem cC2 (t : Fin cfg0.N) (h1 : ¬t.val % 11 ≤ 3) : cond0_2 (grid0.coords t) := (hcond0_2 t).mpr (by omega)

/-! ## Where the outputs are left alone -/

theorem live0_5 : ∀ t : Fin cfg0.N, cfg0.idle 5 (grid0.coords t) = false :=
  (by decide +kernel : ∀ t : Fin grid0.N, cfg0.idle 5 (grid0.coords t) = false)
theorem idle0_6 : ∀ t : Fin cfg0.N, cfg0.idle 6 (grid0.coords t) = !decide (t.val % 11 = 0) :=
  (by decide +kernel : ∀ t : Fin grid0.N, cfg0.idle 6 (grid0.coords t) = !decide (t.val % 11 = 0))
theorem fresh0_6 (t : Fin cfg0.N) : cfg0.fresh 6 t.val = decide (t.val % 11 = 0) :=
  Pipeline.Cfg.fresh_tab cfg0 6 (fun n => decide (n % 11 = 0)) rfl (by decide +kernel) t.val (Nat.le_of_lt t.isLt)

/-! ## The staging memrefs and the contents at a point -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)

/-- The first output, the second output and the scratch after the first point `t` of a row block. -/
def oA (c : Dev nD) (t : Fin cfg0.N) (h0 : t.val % 11 = 0) : Vec F S1024x1024 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cA0 t h0) (cA1 t h0) (cA2 t h0) (iblk m c 0 t) (iblk m c 1 t) (iblk m c 2 t) (X0_3 m c t) (iblk m c 4 t)
def gA (c : Dev nD) (t : Fin cfg0.N) (h0 : t.val % 11 = 0) : Vec F S1024x128 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cA0 t h0) (cA1 t h0) (cA2 t h0) (iblk m c 0 t) (iblk m c 1 t) (iblk m c 2 t) (X0_3 m c t) (iblk m c 4 t)
def sA (c : Dev nD) (t : Fin cfg0.N) (h0 : t.val % 11 = 0) : Vec F S1024x2048 .bf16 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cA0 t h0) (cA1 t h0) (cA2 t h0) (iblk m c 0 t) (iblk m c 1 t) (iblk m c 2 t) (X0_3 m c t) (iblk m c 4 t)

/-- The scratch after point `t`: what the row block's first point left. -/
def hnAt (c : Dev nD) (t : Fin cfg0.N) : Vec F S1024x2048 .bf16 := sA m c (first t) (first_mod t)
/-- The second output after point `t`: what the row block's first point left. -/
def gAt (c : Dev nD) (t : Fin cfg0.N) : Vec F S1024x128 .f32 := gA m c (first t) (first_mod t)

/-- The first output after a point of the merge gates' columns but the first, and after one of the remaining columns. -/
def oB (c : Dev nD) (t : Fin cfg0.N) (h0 : ¬t.val % 11 = 0) (h1 : t.val % 11 ≤ 3) : Vec F S1024x1024 .bf16 :=
  out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cN0 t h0) (cB1 t h0 h1) (cB2 t h1) (iblk m c 2 t) (hnAt m c t)
def oC (c : Dev nD) (t : Fin cfg0.N) (h0 : ¬t.val % 11 = 0) (h1 : ¬t.val % 11 ≤ 3) : Vec F S1024x1024 .bf16 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (cN0 t h0) (cC1 t h1) (cC2 t h1) (X0_3 m c t) (hnAt m c t)

/-- The first output after point `t`. -/
def oAt (c : Dev nD) (t : Fin cfg0.N) : Vec F S1024x1024 .bf16 :=
  if h0 : t.val % 11 = 0 then oA m c t h0 else if h1 : t.val % 11 ≤ 3 then oB m c t h0 h1 else oC m c t h0 h1

theorem oAt_A (c : Dev nD) (t : Fin cfg0.N) (h0 : t.val % 11 = 0) : oAt m c t = oA m c t h0 := dif_pos h0
theorem oAt_B (c : Dev nD) (t : Fin cfg0.N) (h0 : ¬t.val % 11 = 0) (h1 : t.val % 11 ≤ 3) : oAt m c t = oB m c t h0 h1 :=
  (dif_neg h0).trans (dif_pos h1)
theorem oAt_C (c : Dev nD) (t : Fin cfg0.N) (h0 : ¬t.val % 11 = 0) (h1 : ¬t.val % 11 ≤ 3) : oAt m c t = oC m c t h0 h1 :=
  (dif_neg h0).trans (dif_neg h1)

theorem sA_congr (c : Dev nD) (t u : Fin cfg0.N) (h : t = u) (h0 : t.val % 11 = 0) (h1 : u.val % 11 = 0) : sA m c t h0 = sA m c u h1 := by
  subst h; rfl
theorem gA_congr (c : Dev nD) (t u : Fin cfg0.N) (h : t = u) (h0 : t.val % 11 = 0) (h1 : u.val % 11 = 0) : gA m c t h0 = gA m c u h1 := by
  subst h; rfl

theorem hnAt_A (c : Dev nD) (t : Fin cfg0.N) (h0 : t.val % 11 = 0) : hnAt m c t = sA m c t h0 := sA_congr m c _ _ (first_self t h0) _ _
theorem gAt_A (c : Dev nD) (t : Fin cfg0.N) (h0 : t.val % 11 = 0) : gAt m c t = gA m c t h0 := gA_congr m c _ _ (first_self t h0) _ _
theorem hnAt_pred (c : Dev nD) (t : Fin cfg0.N) (h0 : ¬t.val % 11 = 0) (h : t.val - 1 < cfg0.N) : hnAt m c ⟨t.val - 1, h⟩ = hnAt m c t :=
  sA_congr m c _ _ (first_pred t h0 h) _ _
theorem gAt_pred (c : Dev nD) (t : Fin cfg0.N) (h0 : ¬t.val % 11 = 0) (h : t.val - 1 < cfg0.N) : gAt m c ⟨t.val - 1, h⟩ = gAt m c t :=
  gA_congr m c _ _ (first_pred t h0 h) _ _

/-! ## The invariant -/

theorem PhiA0_eq (c : Dev nD) :
    (Pipeline.ΦA spec0 c : Asrt F)
      = iprop(iprop((∃ d, owns (c : Thread nD τ) scM0_0 fullShare d)) ∗ (∃ r, prngReg c r)) := by
  unfold Pipeline.ΦA; rw [scopedRest0_eq]; simp only [scM0_0, owns_whole]; try rfl

/-- Before the first point the scratch holds anything; after a point, that row block's normalised rows. -/
def PhiS (c : Dev nD) : (n : ℕ) → n ≤ cfg0.N → Asrt F
  | 0, _ => Pipeline.ΦA spec0 c
  | n + 1, hn => iprop(iprop(owns (c : Thread nD τ) scM0_0 fullShare (hnAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (hnAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (hnAt m c ⟨n - 1, by omega⟩)) ∗ (∃ r, prngReg c r)) := by
  cases n with
  | zero => exact absurd rfl hz
  | succ n => rfl

/-- The scratch at anything, whatever the point. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨HS0, Hg⟩
    isplitl [HS0]
    · iexists _; iexact HS0
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => oAt m c t
    | ⟨6, _⟩ => gAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = oAt m c t := by dsimp only [dats]
theorem after0_6 (c : Dev nD) (t : Fin cfg0.N) : (dats m 0 c).after 6 t = gAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second output's buffer is carried through the points that leave it alone. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have h0 : ¬t.val % 11 = 0 := by
    intro h; rw [idle0_6 t, decide_eq_true h] at hi; exact absurd hi (by decide)
  rw [after0_6, after0_6, gAt_pred m c t h0]

/-- At a point that leaves the second output alone its buffer holds what the row block's first point left. -/
theorem before0_6 (c : Dev nD) (t : Fin cfg0.N) (h0 : ¬t.val % 11 = 0) (d) : (dats m 0 c).before 6 t d = gAt m c t := by
  rw [Dat.before_out_traj _ 6 rfl (fun _ _ => rfl) (hcarry0_6 m c) t.val t rfl d,
    if_neg (by rw [fresh0_6, decide_eq_false h0]; exact Bool.false_ne_true), after0_6, gAt_pred m c t h0]

/-! ## The body obligation -/

def bodyPre (c : Dev nD) (t : Fin cfg0.N) : Asrt F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : Asrt F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (X0_3 m c t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (oAt m c t) := by
  unfold Dat.leavesExact; rw [live0_5 t, after0_5]
theorem leaves0_6_A (c : Dev nD) (t : Fin cfg0.N) (h0 : t.val % 11 = 0) :
    (dats m 0 c).leavesExact 6 t = owns (c : Thread nD τ) (ms0_6 t) fullShare (gAt m c t) := by
  unfold Dat.leavesExact
  rw [show cfg0.idle 6 (cfg0.grid.coords t) = false from (idle0_6 t).trans (by rw [decide_eq_true h0]; rfl), after0_6]

/-- At the other points the second output is handed back as it was, written back (at the last) or not. -/
theorem leaves0_6_N (c : Dev nD) (t : Fin cfg0.N) (h0 : ¬t.val % 11 = 0) :
    owns (c : Thread nD τ) (ms0_6 t) fullShare (gAt m c t) ⊢ ((dats m 0 c).leavesExact 6 t : Asrt F) := by
  have hi : cfg0.idle 6 (cfg0.grid.coords t) = true := (idle0_6 t).trans (by rw [decide_eq_false h0]; rfl)
  by_cases hf : (cfg0.win 6).flush t = true
  · unfold Dat.leavesExact
    rw [hi, hf, after0_6]
  · rw [Dat.leavesExact_idle _ 6 t hi (Bool.not_eq_true _ ▸ hf)]
    simp only [before0_6 m c t h0]
    iintro H
    iexists (fun _ => Classical.choice inferInstance); iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, PhiS_castSucc m c t]
  by_cases h0 : t.val % 11 = 0
  · rw [leaves0_6_A m c t h0, oAt_A m c t h0, gAt_A m c t h0, show (⟨t.val, t.isLt⟩ : Fin cfg0.N) = t from rfl, hnAt_A m c t h0]
    have hP := PhiS_any m c t.val (Nat.le_of_lt t.isLt)
    rw [PhiA0_eq] at hP
    unfold oA gA sA out0_A_5 out0_A_6 sout0_A_0
    iintro ⟨HP, Ho, ⟨%d0, H0⟩, ⟨%d1, H1⟩, ⟨%d2, H2⟩, ⟨%d3, H3⟩, ⟨%d4, H4⟩, ⟨%d5, H5⟩, ⟨%d6, H6⟩⟩
    ihave HP := hP $$ HP
    icases HP with ⟨HS0, Hg⟩
    iapply ((kernelRun0_A c (grid0.coords t) _ _ _ _ _ _ _ _ _ _ _ _ _ _ _ _ (cA0 t h0) (cA1 t h0) (cA2 t h0) (iblk m c 0 t) (iblk m c 1 t) (iblk m c 2 t) (X0_3 m c t) (iblk m c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, ⟨%e5, H5⟩, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _ _ _ _ _)
  · have hz : t.val ≠ 0 := fun h => h0 (by rw [h])
    rw [PhiS_pos m c _ _ hz, hnAt_pred m c t h0, show (⟨t.val, t.isLt⟩ : Fin cfg0.N) = t from rfl]
    simp only [before0_6 m c t h0]
    by_cases h1 : t.val % 11 ≤ 3
    · rw [oAt_B m c t h0 h1]
      unfold oB out0_B_5
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ (hs0_0 t) _ (hs0_1 t) _ _ _ (hs0_3 t) _ (hs0_4 t) _ _ _ (hs0_6 t) _ _ (cN0 t h0) (cB1 t h0 h1) (cB2 t h1) (iblk m c 2 t) (hnAt m c t)).2 Set.univ _)
      isplitl [H2]; · iexact H2
      isplitl [H5]; · iexists _; iexact H5
      isplitl [HS0]; · iexact HS0
      iintro ⟨H2, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _)
      iapply (leaves0_6_N m c t h0); iexact H6
    · rw [oAt_C m c t h0 h1]
      unfold oC out0_C_5
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ (hs0_0 t) _ (hs0_1 t) _ (hs0_2 t) _ _ _ (hs0_4 t) _ _ _ (hs0_6 t) _ _ (cN0 t h0) (cC1 t h1) (cC2 t h1) (X0_3 m c t) (hnAt m c t)).2 Set.univ _)
      isplitl [H3]; · iexact H3
      isplitl [H5]; · iexists _; iexact H5
      isplitl [HS0]; · iexact HS0
      iintro ⟨H3, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _)
      iapply (leaves0_6_N m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m) (hin := hin m) (hout := hout m)

/-- The call runs, and ends with the arrays the proof data state. -/
theorem run_main : θ_run defs (onTc (τ := τ) (main (F := F))) (s₀ m ρ) (Pipeline.FramePost cfgs (dats m) 0 (V m)) :=
  (θ_run defs _ _).mono (fun _ h => h.1) (run_main_quiescent m ρ)

/-- The call runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Gen

end
-- ==== Proof.InprojValue.lean ====
/- The input projection call as a whole: the array it leaves is, row by row, the normalised row against the columns of
   the weight, the merge gates' columns first. -/
module

public import proofs.«01_k».proof.Proof.InprojIdealFrame
public import proofs.«01_k».proof.Proof.FfnBody
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Ffn

/-! ## The mathematics -/

/-- Row `i` of `X` (rows numbered through the batch), normalised, entry `k`. -/
def hrow (X : FVec Ideal S4x4096x2048 .f32) (N1 : FVec Ideal S1x2048 .f32) (i : Fin 16384) (k : Fin 2048) : EReal :=
  nrm (fun j => er (X (ix3 ⟨i.val / 4096, by omega⟩ ⟨i.val % 4096, by omega⟩ j))) (er (N1 (ix2 0 k))) k

/-- The weight's column behind column `e` of the result: the merge gates' 4096 columns come first. -/
def col (e : Fin 11264) : Fin 11280 := if h : e.val < 4096 then ⟨7184 + e.val, by omega⟩ else ⟨e.val - 4096, by omega⟩

/-- The input projection. -/
def inproj (X : FVec Ideal S4x4096x2048 .f32) (N1 : FVec Ideal S1x2048 .f32) (W : FVec Ideal S1x2048x11280 .f32) :
    FVec Ideal S16384x11264 .bf16 :=
  fun j => ∑ k : Fin 2048, hrow X N1 (j 0) k * er (W (ix3 0 k (col (j 1))))

/-! ## The body at one grid point -/

section body

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S256x2048 .bf16) (harg6 : arg6.IsWhole) (arg7 : Memref sig .tc .vmem S1024x1024 .bf16) (harg7 : arg7.IsWhole)
  (arg8 : Memref sig .tc .vmem S1024x128 .f32) (harg8 : arg8.IsWhole) (arg9 : Memref sig .tc .vmem S1024x2048 .bf16) (harg9 : arg9.IsWhole)

/-- At the first column block the scratch is filled with the normalised rows. -/
theorem soutA_at (hc0 : cond0_0 i) (hc1 : ¬cond0_1 i) (hc2 : ¬cond0_2 i)
    (x0 : Vec Ideal S1024x2048 .f32) (x1 : Vec Ideal S1x2048 .f32) (x2 x3 : Vec Ideal S1024x2048 .bf16) (x4 : Vec Ideal S256x2048 .bf16)
    (r : Fin 1024) (d : Fin 2048) :
    sout0_A_0 c i arg2 harg2 arg3 harg3 arg4 harg4 arg5 harg5 arg6 harg6 arg7 harg7 arg8 harg8 arg9 harg9 hc0 hc1 hc2 x0 x1 x2 x3 x4 (ix2 r d)
      = nrm (fun j => er (x0 (ix2 r j))) (er (x1 (ix2 0 d))) d := by
  frame_out
  canon_tiles x h
  all_goals
    change (r : ℕ) = _ at h0; change (d : ℕ) = _ at h1
    unfold_payloads
    pointwise [er, nrm]
    blk_point []

/-- At the first column block the output holds the normalised rows against the merge gates' first columns. -/
theorem outA_at (hc0 : cond0_0 i) (hc1 : ¬cond0_1 i) (hc2 : ¬cond0_2 i)
    (x0 : Vec Ideal S1024x2048 .f32) (x1 : Vec Ideal S1x2048 .f32) (x2 x3 : Vec Ideal S1024x2048 .bf16) (x4 : Vec Ideal S256x2048 .bf16)
    (r l : Fin 1024) :
    out0_A_5 c i arg2 harg2 arg3 harg3 arg4 harg4 arg5 harg5 arg6 harg6 arg7 harg7 arg8 harg8 arg9 harg9 hc0 hc1 hc2 x0 x1 x2 x3 x4 (ix2 r l)
      = ∑ k : Fin 2048, nrm (fun j => er (x0 (ix2 r j))) (er (x1 (ix2 0 k))) k * er (x2 (ix2 l k)) := by
  frame_out
  canon_tiles x h
  all_goals
    change (r : ℕ) = _ at h0; change (l : ℕ) = _ at h1
    unfold_payloads
    pointwise [er, nrm]
    blk_point []

/-- At the merge gates' other columns the output holds the carried rows against those columns. -/
theorem outB_at (hc0 : ¬cond0_0 i) (hc1 : cond0_1 i) (hc2 : ¬cond0_2 i) (x2 xs0 : Vec Ideal S1024x2048 .bf16) (r l : Fin 1024) :
    out0_B_5 c i arg2 harg2 arg3 harg3 arg4 harg4 arg5 harg5 arg6 harg6 arg7 harg7 arg8 harg8 arg9 harg9 hc0 hc1 hc2 x2 xs0 (ix2 r l)
      = ∑ k : Fin 2048, er (xs0 (ix2 r k)) * er (x2 (ix2 l k)) := by
  frame_out
  unfold_payloads
  pointwise [er]

/-- At the remaining columns the output holds the carried rows against those columns. -/
theorem outC_at (hc0 : ¬cond0_0 i) (hc1 : ¬cond0_1 i) (hc2 : cond0_2 i) (x3 xs0 : Vec Ideal S1024x2048 .bf16) (r l : Fin 1024) :
    out0_C_5 c i arg2 harg2 arg3 harg3 arg4 harg4 arg5 harg5 arg6 harg6 arg7 harg7 arg8 harg8 arg9 harg9 hc0 hc1 hc2 x3 xs0 (ix2 r l)
      = ∑ k : Fin 2048, er (xs0 (ix2 r k)) * er (x3 (ix2 l k)) := by
  frame_out
  unfold_payloads
  pointwise [er]

end body

/-! ## The blocks the body reads -/

variable (m : (ℓ : Loc nD τ sig) → Buf (Elt Ideal) ℓ)

theorem idx : ∀ t : Fin cfg0.N, win0_0.index t = ![t.val / 11, 0] ∧ win0_1.index t = ![0, 0] ∧ win0_2.index t = ![min (t.val % 11) 3, 0]
    ∧ win0_3.index t = ![t.val % 11 - 4, 0] ∧ win0_5.index t = ![t.val / 11, t.val % 11] :=
  (by decide +kernel : ∀ t : Fin grid0.N, _)

abbrev aX (c : Dev nD) : FVec Ideal S4x4096x2048 .f32 := m ((c : Thread nD τ).loc main_arg0)
abbrev aN1 (c : Dev nD) : FVec Ideal S1x2048 .f32 := m ((c : Thread nD τ).loc main_arg1)
abbrev aW (c : Dev nD) : FVec Ideal S1x2048x11280 .f32 := m ((c : Thread nD τ).loc main_arg2)

theorem V16_at (c : Dev nD) (i : Fin 16384) (j : Fin 2048) :
    V m c main_v16 (ix2 i j) = aX m c (ix3 ⟨i.val / 4096, by omega⟩ ⟨i.val % 4096, by omega⟩ j) := by
  unfold V
  simp only [hostOps0, hostOps0_1, hostOps0_2, List.flatten_cons, List.flatten_nil, List.append_nil, List.cons_append,
    List.nil_append]
  entry_read
  pointwise

theorem V18_at (c : Dev nD) (k : Fin 2048) : V m c main_v18 (ix2 0 k) = aN1 m c (ix2 0 k) := by
  unfold V
  simp only [hostOps0, hostOps0_1, hostOps0_2, List.flatten_cons, List.flatten_nil, List.append_nil, List.cons_append,
    List.nil_append]
  entry_read
  pointwise

/-- The weight, as the call receives it, is the argument's, transposed. -/
theorem V2_at (c : Dev nD) (q : Fin 11280) (k : Fin 2048) : V m c main_v2 (ix2 q k) = aW m c (ix3 0 k q) := by
  unfold V
  simp only [hostOps0, hostOps0_1, hostOps0_2, List.flatten_cons, List.flatten_nil, List.append_nil, List.cons_append,
    List.nil_append]
  entry_read
  pointwise

/-- The merge gates' columns, as the call receives them, are the argument's from 7184 on. -/
theorem V3_at (c : Dev nD) (q : Fin 4096) (k : Fin 2048) : V m c main_v3 (ix2 q k) = aW m c (ix3 0 k ⟨7184 + q.val, by omega⟩) := by
  unfold V
  simp only [hostOps0, hostOps0_1, hostOps0_2, List.flatten_cons, List.flatten_nil, List.append_nil, List.cons_append,
    List.nil_append]
  entry_read
  pointwise

theorem blk0 (c : Dev nD) (t : Fin cfg0.N) (r : Fin 1024) (j : Fin 2048) (i : Fin 16384) (hi : (i : ℕ) = t.val / 11 * 1024 + r) :
    iblk m c 0 t (ix2 r j) = aX m c (ix3 ⟨i.val / 4096, by omega⟩ ⟨i.val % 4096, by omega⟩ j) := by
  refine Eq.trans ?_ (V16_at m c i j)
  blk_ext [iblk, idx t]

theorem blk1 (c : Dev nD) (t : Fin cfg0.N) (k : Fin 2048) : iblk m c 1 t (ix2 0 k) = aN1 m c (ix2 0 k) := by
  refine Eq.trans ?_ (V18_at m c k)
  blk_ext [iblk, idx t]

theorem blk2 (c : Dev nD) (t : Fin cfg0.N) (l : Fin 1024) (k : Fin 2048) (q : Fin 4096)
    (hq : (q : ℕ) = min (t.val % 11) 3 * 1024 + l) :
    iblk m c 2 t (ix2 l k) = aW m c (ix3 0 k ⟨7184 + q.val, by omega⟩) := by
  refine Eq.trans ?_ (V3_at m c q k)
  blk_ext [iblk, idx t]

theorem blk3 (c : Dev nD) (t : Fin cfg0.N) (l : Fin 1024) (k : Fin 2048) (q : Fin 11280)
    (hq : (q : ℕ) = (t.val % 11 - 4) * 1024 + l) :
    X0_3 m c t (ix2 l k) = aW m c (ix3 0 k q) := by
  unfold X0_3 Pipeline.Window.fill
  rw [dif_pos (moved0_3 t _)]
  refine Eq.trans ?_ (V2_at m c q k)
  blk_ext [iblk, idx t]

/-! ## What the points leave -/

theorem hrow_blk (c : Dev nD) (t : Fin cfg0.N) (r : Fin 1024) (i : Fin 16384) (hi : (i : ℕ) = t.val / 11 * 1024 + r)
    (k : Fin 2048) : nrm (fun j => er (iblk m c 0 t (ix2 r j))) (er (iblk m c 1 t (ix2 0 k))) k = hrow (aX m c) (aN1 m c) i k := by
  unfold hrow
  rw [blk1 m c t k, funext fun j => blk0 m c t r j i hi]

/-- The carried rows are the row block's normalised rows. -/
theorem hn_at (c : Dev nD) (t : Fin cfg0.N) (r : Fin 1024) (i : Fin 16384) (hi : (i : ℕ) = t.val / 11 * 1024 + r) (k : Fin 2048) :
    hnAt m c t (ix2 r k) = hrow (aX m c) (aN1 m c) i k := by
  unfold hnAt sA
  rw [soutA_at]
  exact hrow_blk m c (Gen.first t) r i (by
    show (i : ℕ) = 11 * (t.val / 11) / 11 * 1024 + r
    rw [Nat.mul_div_cancel_left _ (by decide)]; exact hi) k

/-- Column `t % 11 * 1024 + l` of the result, read at the weight. -/
theorem col_lt (n l : ℕ) (hl : l < 1024) (hn : n ≤ 3) (h : n * 1024 + l < 11264) :
    col ⟨n * 1024 + l, h⟩ = ⟨7184 + (min n 3 * 1024 + l), by omega⟩ := by
  unfold col
  rw [dif_pos (by show n * 1024 + l < 4096; omega)]
  apply Fin.ext
  show 7184 + (n * 1024 + l) = 7184 + (min n 3 * 1024 + l)
  omega

theorem col_ge (n l : ℕ) (hl : l < 1024) (hn : ¬n ≤ 3) (h : n * 1024 + l < 11264) :
    col ⟨n * 1024 + l, h⟩ = ⟨(n - 4) * 1024 + l, by omega⟩ := by
  unfold col
  rw [dif_neg (by show ¬n * 1024 + l < 4096; omega)]
  apply Fin.ext
  show n * 1024 + l - 4096 = (n - 4) * 1024 + l
  omega

/-- After a point the output block holds its rows against its columns. -/
theorem o_at (c : Dev nD) (t : Fin cfg0.N) (r l : Fin 1024) (i : Fin 16384) (hi : (i : ℕ) = t.val / 11 * 1024 + r)
    (h : t.val % 11 * 1024 + (l : ℕ) < 11264) :
    oAt m c t (ix2 r l) = ∑ k : Fin 2048, hrow (aX m c) (aN1 m c) i k * er (aW m c (ix3 0 k (col ⟨t.val % 11 * 1024 + l, h⟩))) := by
  have hl := l.isLt
  by_cases h0 : t.val % 11 = 0
  · rw [oAt_A m c t h0, oA, outA_at]
    refine Finset.sum_congr rfl fun k _ => ?_
    rw [hrow_blk m c t r i hi k, col_lt _ _ hl (by omega) h]
    exact congrArg (hrow (aX m c) (aN1 m c) i k * ·) (blk2 m c t l k ⟨min (t.val % 11) 3 * 1024 + l, by omega⟩ rfl)
  · by_cases h1 : t.val % 11 ≤ 3
    · rw [oAt_B m c t h0 h1, oB, outB_at]
      refine Finset.sum_congr rfl fun k _ => ?_
      rw [hn_at m c t r i hi k, col_lt _ _ hl h1 h]
      exact congrArg (hrow (aX m c) (aN1 m c) i k * ·) (blk2 m c t l k ⟨min (t.val % 11) 3 * 1024 + l, by omega⟩ rfl)
    · rw [oAt_C m c t h0 h1, oC, outC_at]
      refine Finset.sum_congr rfl fun k _ => ?_
      rw [hn_at m c t r i hi k, col_ge _ _ hl h1 h]
      exact congrArg (hrow (aX m c) (aN1 m c) i k * ·) (blk3 m c t l k _ rfl)

/-- The result array of the call is the input projection of its arguments. -/
theorem final (c : Dev nD) : (dats m 0 c).arrAt 5 (cfgs 0).N = inproj (aX m c) (aN1 m c) (aW m c) := by
  refine (dats m 0 c).arrAt_eq_of_covers 5 _ (by decide +kernel) fun t hf y => ?_
  blk_simp
  rw [after0_5]
  have ht : t.val < 176 := lt_of_lt_of_eq t.isLt N_0
  obtain ⟨r, l, rfl⟩ : ∃ (r l : Fin 1024), y = ix2 r l := ⟨y 0, y 1, eq_ix2 y⟩
  have hi : t.val / 11 * 1024 + (r : ℕ) < 16384 := by omega
  have hl : t.val % 11 * 1024 + (l : ℕ) < 11264 := by omega
  refine (o_at m c t r l ⟨_, hi⟩ rfl hl).trans ?_
  have he : (((cfg0.win 5).blk t).view.emb (ix2 r l) : S16384x11264.Idx)
      = ix2 ⟨t.val / 11 * 1024 + (r : ℕ), hi⟩ ⟨t.val % 11 * 1024 + (l : ℕ), hl⟩ := by
    blk_ext [idx t]
  rw [he]
  rfl

end Cert.Kernel3Ideal.Value
-- ==== Proof.InprojRef.lean ====
/- The plain input projection, read entry by entry. -/
module

public import proofs.«01_k».proof.Proof.InprojValue
public import proofs.«01_k».proof.Proof.Gen.Reference3Ideal.Run
public import proofs.«01_k».proof.Defs

@[expose] public section

set_option maxRecDepth 16384

noncomputable section

open Idealize.ShloMosaic Idealize.ShloMosaic.TcCoe Idealize.SL.Sem

namespace Cert.Reference3Ideal.Value

open Cert.Reference3Ideal Cert.Reference3Ideal.Gen Cert.Ffn Cert.Kernel3Ideal.Value

/-- The rows of an array normalised, as the host operations write it. -/
def rms (x : FVec Ideal S16384x2048 .f32) (w : FVec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32)
      reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 w))

theorem rms_at (x : FVec Ideal S16384x2048 .f32) (w : FVec Ideal S2048 .f32) (i : Fin 16384) (k : Fin 2048) :
    rms x w (ix2 i k) = nrm (fun j => x (ix2 i j)) (w (ix1 k)) k := by
  pointwise [rms, nrm]

/-- The normalised rows against every column of the weight, as the host operations write it. -/
def proj (x : FVec Ideal S4x4096x2048 .f32) (n1 : FVec Ideal S1x2048 .f32) (w : FVec Ideal S1x2048x11280 .f32) :
    FVec Ideal S16384x11280 .f32 :=
  Host.dotGeneral dot_S16384x2048_S2048x11280_S16384x11280_1_0_0_1_n_n none
    (rms (shapeCast S16384x2048 x shapeCasts_S4x4096x2048_S16384x2048) (shapeCast S2048 n1 shapeCasts_S1x2048_S2048))
    (shapeCast S2048x11280 w shapeCasts_S1x2048x11280_S2048x11280)

theorem proj_at (x : FVec Ideal S4x4096x2048 .f32) (n1 : FVec Ideal S1x2048 .f32) (w : FVec Ideal S1x2048x11280 .f32)
    (i : Fin 16384) (q : Fin 11280) : proj x n1 w (ix2 i q) = ∑ k : Fin 2048, hrow x n1 i k * er (w (ix3 0 k q)) := by
  unfold proj hrow
  pointwise [rms_at]

/-- The layer from its parts. -/
def layer (x : FVec Ideal S4x4096x2048 .f32) (n1 : FVec Ideal S1x2048 .f32) (w : FVec Ideal S1x2048x11280 .f32) :
    FVec Ideal S16384x11264 .bf16 :=
  truncf .bf16 (concatenate S16384x11264 1
    [⟨S16384x4096, extractStridedSlice S16384x4096 ![0, 7184] (proj x n1 w) slices_S16384x11280_S16384x4096_0_7184⟩,
     ⟨S16384x7168, extractStridedSlice S16384x7168 ![0, 0] (proj x n1 w) slices_S16384x11280_S16384x7168_0_0⟩]
    concatenates_S16384x4096_S16384x7168_S16384x11264_d1) bitsLt_bf16_f32

theorem layer_eq (x : FVec Ideal S4x4096x2048 .f32) (n1 : FVec Ideal S1x2048 .f32) (w : FVec Ideal S1x2048x11280 .f32) :
    layer x n1 w = inproj x n1 w := by
  funext j
  obtain ⟨i, e, rfl⟩ : ∃ (i : Fin 16384) (e : Fin 11264), j = ix2 i e := ⟨j 0, j 1, eq_ix2 j⟩
  refine Eq.trans ?_ (proj_at x n1 w i (col e))
  unfold layer
  by_cases h : e.val < 4096
  · rw [show col e = ⟨7184 + e.val, by omega⟩ from dif_pos h]
    pointwise [h]
  · rw [show col e = ⟨e.val - 4096, by omega⟩ from dif_neg h]
    pointwise [h]

/-- The plain input projection runs to the array of `inproj`. -/
theorem run_inproj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = inproj (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (layer_eq (m ((c.tc : Thread nD τ).loc main_arg0))
    (m ((c.tc : Thread nD τ).loc main_arg1)) (m ((c.tc : Thread nD τ).loc main_arg2))), (h c).2⟩) (run m ρ)

end Cert.Reference3Ideal.Value

namespace Cert.Proof

/-- Over the reals the input projection call and the plain input projection return the same array. -/
theorem inproj_algebraic : Cert.algebraic_Kernel3Ideal_Reference3Ideal := by
  pair_intro
  · run_from Cert.Kernel3Ideal.Gen.run_main m g
    · exact Cert.Kernel3Ideal.Gen.V_main_arg0 m c
    · exact Cert.Kernel3Ideal.Gen.V_main_arg1 m c
    · exact Cert.Kernel3Ideal.Gen.V_main_arg2 m c
  · run_from Cert.Reference3Ideal.Value.run_inproj m' g'
    exact (Cert.Kernel3Ideal.Value.final m c).symm

end Cert.Proof
-- ==== Proof.MergeBody.lean ====
/- The merge call at one grid point: what the body leaves in the output block, each entry a plain expression over
   the extended reals. -/
module

public import proofs.«01_k».proof.Proof.Gen.Kernel4Ideal.Value
public import Idealize.ShloMosaic.Lib.Pipeline.ValueKit

@[expose] public section

set_option maxRecDepth 16384

noncomputable section

open Idealize.ShloMosaic Idealize.ShloMosaic.TcCoe Idealize.SL.Sem

namespace Cert.Merge

/-- A value read as an extended real. -/
abbrev er (x : EReal) : EReal := x

/-- The logistic function. -/
def sg (x : EReal) : EReal := Ideal.div 1 (1 + Ideal.exp (-x))

/-- One entry of the merged branches: each branch projected on its column of weights and gated. -/
def mix (ya hf hb o wa wb : Fin 1024 → EReal) (ma mb : EReal) : EReal :=
  sg ma * (∑ k : Fin 1024, ya k * wa k) + sg mb * ∑ k : Fin 1024, sg (o k) * (hf k + hb k) * wb k

end Cert.Merge

namespace Cert.Kernel4Ideal.Value

open Cert.Kernel4Ideal Cert.Kernel4Ideal.Gen Cert.Merge

/-- Column `l` of four blocks of 256 columns put side by side. -/
theorem beside (x : Vec Ideal S4x256x256 .bf16) (r : Fin 256) (l : Fin 1024) :
    (if h : l.val < 256 then er (x (ix3 0 r ⟨l.val, h⟩))
      else if h : l.val - 256 < 256 then er (x (ix3 1 r ⟨l.val - 256, h⟩))
      else if h : l.val - 256 - 256 < 256 then er (x (ix3 2 r ⟨l.val - 256 - 256, h⟩))
      else er (x (ix3 3 r ⟨l.val - 256 - 256 - 256, by omega⟩)))
      = er (x (ix3 ⟨l.val / 256, by omega⟩ r ⟨l.val % 256, by omega⟩)) := by
  have hl := l.isLt
  have key : ∀ (a b : Fin 4) (p q : Fin 256), a.val = b.val → p.val = q.val → er (x (ix3 a r p)) = er (x (ix3 b r q)) := by
    intro a b p q h1 h2
    rw [Fin.ext h1, Fin.ext h2]
  split
  · exact key _ _ _ _ (show 0 = l.val / 256 by omega) (show l.val = l.val % 256 by omega)
  · split
    · exact key _ _ _ _ (show 1 = l.val / 256 by omega) (show l.val - 256 = l.val % 256 by omega)
    · split
      · exact key _ _ _ _ (show 2 = l.val / 256 by omega) (show l.val - 256 - 256 = l.val % 256 by omega)
      · exact key _ _ _ _ (show 3 = l.val / 256 by omega) (show l.val - 256 - 256 - 256 = l.val % 256 by omega)

/-- The merged row after the output projection, added to the residual row. -/
theorem out_at (c : Dev nD) (i : grid0.Coords) (arg1 : Memref sig .tc .vmem S256x2048 .f32) (harg1 : arg1.IsWhole) (arg2 : Memref sig .tc .vmem S4x256x256 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S256x2048 .f32) (harg11 : arg11.IsWhole) (x0 : Vec Ideal S256x2048 .f32) (x1 : Vec Ideal S4x256x256 .bf16) (x2 : Vec Ideal S256x1024 .bf16) (x3 : Vec Ideal S256x1024 .bf16) (x4 : Vec Ideal S256x1024 .bf16) (x5 : Vec Ideal S256x2048 .bf16) (x6 : Vec Ideal S256x2048 .bf16) (x7 : Vec Ideal S1024x2048 .bf16) (x8 : Vec Ideal S1024x2048 .bf16) (x9 : Vec Ideal S2048x2048 .bf16) (r : Fin 256) (d : Fin 2048) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r d)
      = er (x0 (ix2 r d)) + ∑ e : Fin 2048, mix (fun k => er (x1 (ix3 ⟨k.val / 256, by omega⟩ r ⟨k.val % 256, by omega⟩)))
          (fun k => er (x2 (ix2 r k))) (fun k => er (x3 (ix2 r k))) (fun k => er (x4 (ix2 r k))) (fun k => er (x7 (ix2 k e)))
          (fun k => er (x8 (ix2 k e))) (er (x5 (ix2 r e))) (er (x6 (ix2 r e))) * er (x9 (ix2 e d)) := by
  frame_out
  pointwise [k0_pay1, k0_pay2, k0_pay3]
  simp only [zero_sub]
  refine congrArg (er (x0 (ix2 r d)) + ·) (Finset.sum_congr rfl fun e _ => ?_)
  refine congrArg (· * er (x9 (ix2 e d))) ?_
  unfold mix
  rw [← Finset.sum_congr rfl fun l _ => congrArg (· * er (x7 (ix2 l e))) (beside x1 r l)]
  rfl

end Cert.Kernel4Ideal.Value
-- ==== Proof.MergeValue.lean ====
/- The merge call as a whole, and the plain merge of the two branches, which returns the same array. -/
module

public import proofs.«01_k».proof.Proof.MergeBody
public import proofs.«01_k».proof.Proof.Gen.Reference4Ideal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.Merge

/-- Entry `e` of merged row `i`. -/
def mrow (YA : FVec Ideal S4x16384x256 .bf16) (HF HB : FVec Ideal S16384x1024 .bf16) (PR : FVec Ideal S16384x11264 .bf16)
    (WA WB : FVec Ideal S1x1024x2048 .f32) (i : Fin 16384) (e : Fin 2048) : EReal :=
  mix (fun k => er (YA (ix3 ⟨k.val / 256, by omega⟩ i ⟨k.val % 256, by omega⟩))) (fun k => er (HF (ix2 i k)))
    (fun k => er (HB (ix2 i k))) (fun k => er (PR (ix2 i ⟨10240 + k.val, by omega⟩))) (fun k => er (WA (ix3 0 k e)))
    (fun k => er (WB (ix3 0 k e))) (er (PR (ix2 i ⟨e.val, by omega⟩))) (er (PR (ix2 i ⟨2048 + e.val, by omega⟩)))

/-- The residual rows plus the projected merged rows. -/
def merged (X : FVec Ideal S16384x2048 .f32) (YA : FVec Ideal S4x16384x256 .bf16) (HF HB : FVec Ideal S16384x1024 .bf16)
    (PR : FVec Ideal S16384x11264 .bf16) (WA WB : FVec Ideal S1x1024x2048 .f32) (WO : FVec Ideal S1x2048x2048 .f32) :
    FVec Ideal S16384x2048 .f32 :=
  fun j => er (X (ix2 (j 0) (j 1))) + ∑ e : Fin 2048, mrow YA HF HB PR WA WB (j 0) e * er (WO (ix3 0 e (j 1)))

variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 10] ∧ win0_5.index t = ![t.val, 0] ∧ win0_6.index t = ![t.val, 1]
    ∧ win0_7.index t = ![0, 0] ∧ win0_8.index t = ![0, 0] ∧ win0_9.index t = ![0, 0] ∧ win0_10.index t = ![t.val, 0] :=
  (by decide +kernel : ∀ t : Fin grid0.N, _)

abbrev aX (c : Dev nD) : FVec Ideal S16384x2048 .f32 := m ((c : Thread nD τ).loc main_arg0)
abbrev aYA (c : Dev nD) : FVec Ideal S4x16384x256 .bf16 := m ((c : Thread nD τ).loc main_arg1)
abbrev aHF (c : Dev nD) : FVec Ideal S16384x1024 .bf16 := m ((c : Thread nD τ).loc main_arg2)
abbrev aHB (c : Dev nD) : FVec Ideal S16384x1024 .bf16 := m ((c : Thread nD τ).loc main_arg3)
abbrev aPR (c : Dev nD) : FVec Ideal S16384x11264 .bf16 := m ((c : Thread nD τ).loc main_arg4)
abbrev aWA (c : Dev nD) : FVec Ideal S1x1024x2048 .f32 := m ((c : Thread nD τ).loc main_arg5)
abbrev aWB (c : Dev nD) : FVec Ideal S1x1024x2048 .f32 := m ((c : Thread nD τ).loc main_arg6)
abbrev aWO (c : Dev nD) : FVec Ideal S1x2048x2048 .f32 := m ((c : Thread nD τ).loc main_arg7)

section blocks

variable (c : Dev nD) (t : Fin cfg0.N) (r : Fin 256) (i : Fin 16384) (hi : (i : ℕ) = t.val * 256 + r)

include hi in
theorem blk0 (j : Fin 2048) : iblk m c 0 t (ix2 r j) = aX m c (ix2 i j) := by
  blk_point [iblk, V, idx t]

include hi in
theorem blk1 (a : Fin 4) (j : Fin 256) : iblk m c 1 t (ix3 a r j) = aYA m c (ix3 a i j) := by
  blk_point [iblk, V, idx t]

include hi in
theorem blk2 (j : Fin 1024) : iblk m c 2 t (ix2 r j) = aHF m c (ix2 i j) := by
  blk_point [iblk, V, idx t]

include hi in
theorem blk3 (j : Fin 1024) : iblk m c 3 t (ix2 r j) = aHB m c (ix2 i j) := by
  blk_point [iblk, V, idx t]

include hi in
theorem blk4 (j : Fin 1024) : iblk m c 4 t (ix2 r j) = aPR m c (ix2 i ⟨10240 + j.val, by omega⟩) := by
  blk_point [iblk, V, idx t]

include hi in
theorem blk5 (j : Fin 2048) : X0_5 m c t (ix2 r j) = aPR m c (ix2 i ⟨j.val, by omega⟩) := by
  unfold X0_5 Pipeline.Window.fill
  rw [dif_pos (moved0_5 t _)]
  refine Eq.trans ?_ (congrFun (V_main_arg4 m c) _)
  blk_ext [iblk, idx t]

include hi in
theorem blk6 (j : Fin 2048) : X0_6 m c t (ix2 r j) = aPR m c (ix2 i ⟨2048 + j.val, by omega⟩) := by
  unfold X0_6 Pipeline.Window.fill
  rw [dif_pos (moved0_6 t _)]
  refine Eq.trans ?_ (congrFun (V_main_arg4 m c) _)
  blk_ext [iblk, idx t]

end blocks

/-- The first branch's weights, as the call receives them, are the argument's. -/
theorem V7_at (c : Dev nD) (k : Fin 1024) (e : Fin 2048) : V m c (Pipeline.arrRef spec0 7) (ix2 k e) = aWA m c (ix3 0 k e) := by
  entry_read
  pointwise

/-- The second branch's weights, as the call receives them, are the argument's. -/
theorem V8_at (c : Dev nD) (k : Fin 1024) (e : Fin 2048) : V m c (Pipeline.arrRef spec0 8) (ix2 k e) = aWB m c (ix3 0 k e) := by
  entry_read
  pointwise

/-- The output weights, as the call receives them, are the argument's. -/
theorem V9_at (c : Dev nD) (k d : Fin 2048) : V m c (Pipeline.arrRef spec0 9) (ix2 k d) = aWO m c (ix3 0 k d) := by
  entry_read
  pointwise

theorem blk7 (c : Dev nD) (t : Fin cfg0.N) (k : Fin 1024) (e : Fin 2048) : iblk m c 7 t (ix2 k e) = aWA m c (ix3 0 k e) := by
  refine Eq.trans ?_ (V7_at m c k e)
  blk_ext [iblk, idx t]

theorem blk8 (c : Dev nD) (t : Fin cfg0.N) (k : Fin 1024) (e : Fin 2048) : iblk m c 8 t (ix2 k e) = aWB m c (ix3 0 k e) := by
  refine Eq.trans ?_ (V8_at m c k e)
  blk_ext [iblk, idx t]

theorem blk9 (c : Dev nD) (t : Fin cfg0.N) (k d : Fin 2048) : iblk m c 9 t (ix2 k d) = aWO m c (ix3 0 k d) := by
  refine Eq.trans ?_ (V9_at m c k d)
  blk_ext [iblk, idx t]

/-- The result array of the call is the merge of its arguments. -/
theorem final (c : Dev nD) : (dats m 0 c).arrAt 10 (cfgs 0).N
    = merged (aX m c) (aYA m c) (aHF m c) (aHB m c) (aPR m c) (aWA m c) (aWB m c) (aWO m c) := by
  refine (dats m 0 c).arrAt_eq_of_covers 10 _ (by decide +kernel) fun t hf y => ?_
  blk_simp
  rw [after0_10]
  have ht : t.val < 64 := lt_of_lt_of_eq t.isLt N_0
  obtain ⟨r, d, rfl⟩ : ∃ (r : Fin 256) (d : Fin 2048), y = ix2 r d := ⟨y 0, y 1, eq_ix2 y⟩
  have hi : t.val * 256 + (r : ℕ) < 16384 := by omega
  unfold outsAt0
  refine (out_at ..).trans ?_
  have he : (((cfg0.win 10).blk t).view.emb (ix2 r d) : S16384x2048.Idx) = ix2 ⟨t.val * 256 + (r : ℕ), hi⟩ d := by
    blk_ext [idx t]
  rw [he]
  have b0 := blk0 m c t r ⟨_, hi⟩ rfl
  have b1 := blk1 m c t r ⟨_, hi⟩ rfl
  have b2 := blk2 m c t r ⟨_, hi⟩ rfl
  have b3 := blk3 m c t r ⟨_, hi⟩ rfl
  have b4 := blk4 m c t r ⟨_, hi⟩ rfl
  have b5 := blk5 m c t r ⟨_, hi⟩ rfl
  have b6 := blk6 m c t r ⟨_, hi⟩ rfl
  simp only [er, b0, b1, b2, b3, b4, b5, b6, blk7, blk8, blk9]
  rfl

end Cert.Kernel4Ideal.Value

namespace Cert.Reference4Ideal.Value

open Cert.Reference4Ideal Cert.Reference4Ideal.Gen Cert.Merge Cert.Kernel4Ideal.Value

/-- The logistic function of an array of gate columns, as the host operations write it. -/
def gate (g : FVec Ideal S16384x2048 .f32) : FVec Ideal S16384x2048 .f32 :=
  Host.divf (broadcastInDim S16384x2048 ![] bcast_S_S16384x2048 (constant S_ .f32 0x3F800000#32))
    (addf (broadcastInDim S16384x2048 ![] bcast_S_S16384x2048 (constant S_ .f32 0x3F800000#32)) (Host.exp (Host.negf g)))

theorem gate_at (g : FVec Ideal S16384x2048 .f32) (i : Fin 16384) (e : Fin 2048) : gate g (ix2 i e) = sg (g (ix2 i e)) := by
  pointwise [gate, sg]

/-- The first branch projected, as the host operations write it. -/
def projA (ya : FVec Ideal S4x16384x256 .bf16) (wa : FVec Ideal S1x1024x2048 .f32) : FVec Ideal S16384x2048 .f32 :=
  Host.dotGeneral dot_S16384x1024_S1024x2048_S16384x2048_1_0_0_1_n_n none
    (shapeCast S16384x1024 (transpose S16384x4x256 [1, 0, 2] (extf .f32 ya bitsLt_bf16_f32)
      transposes_S4x16384x256_S16384x4x256_1_0_2) shapeCasts_S16384x4x256_S16384x1024)
    (shapeCast S1024x2048 wa shapeCasts_S1x1024x2048_S1024x2048)

theorem projA_at (ya : FVec Ideal S4x16384x256 .bf16) (wa : FVec Ideal S1x1024x2048 .f32) (i : Fin 16384) (e : Fin 2048) :
    projA ya wa (ix2 i e) = ∑ k : Fin 1024, er (ya (ix3 ⟨k.val / 256, by omega⟩ i ⟨k.val % 256, by omega⟩))
      * er (wa (ix3 0 k e)) := by
  pointwise [projA]

/-- The second branch gated and projected, as the host operations write it. -/
def projB (hf hb : FVec Ideal S16384x1024 .bf16) (o : FVec Ideal S16384x1024 .f32) (wb : FVec Ideal S1x1024x2048 .f32) :
    FVec Ideal S16384x2048 .f32 :=
  Host.dotGeneral dot_S16384x1024_S1024x2048_S16384x2048_1_0_0_1_n_n none
    (mulf (Host.divf (broadcastInDim S16384x1024 ![] bcast_S_S16384x1024 (constant S_ .f32 0x3F800000#32))
      (addf (broadcastInDim S16384x1024 ![] bcast_S_S16384x1024 (constant S_ .f32 0x3F800000#32)) (Host.exp (Host.negf o))))
      (addf (extf .f32 hf bitsLt_bf16_f32) (extf .f32 hb bitsLt_bf16_f32)))
    (shapeCast S1024x2048 wb shapeCasts_S1x1024x2048_S1024x2048)

theorem projB_at (hf hb : FVec Ideal S16384x1024 .bf16) (o : FVec Ideal S16384x1024 .f32) (wb : FVec Ideal S1x1024x2048 .f32)
    (i : Fin 16384) (e : Fin 2048) : projB hf hb o wb (ix2 i e)
      = ∑ k : Fin 1024, sg (o (ix2 i k)) * (er (hf (ix2 i k)) + er (hb (ix2 i k))) * er (wb (ix3 0 k e)) := by
  pointwise [projB, sg]

/-- The whole merge, as the host operations write it. -/
def layer (x : FVec Ideal S16384x2048 .f32) (ya : FVec Ideal S4x16384x256 .bf16) (hf hb : FVec Ideal S16384x1024 .bf16)
    (pr : FVec Ideal S16384x11264 .bf16) (wa wb : FVec Ideal S1x1024x2048 .f32) (wo : FVec Ideal S1x2048x2048 .f32) :
    FVec Ideal S16384x2048 .f32 :=
  addf x (Host.dotGeneral dot_S16384x2048_S2048x2048_S16384x2048_1_0_0_1_n_n none
    (addf (mulf (gate (extractStridedSlice S16384x2048 ![0, 0] (extf .f32 pr bitsLt_bf16_f32)
        slices_S16384x11264_S16384x2048_0_0)) (projA ya wa))
      (mulf (gate (extractStridedSlice S16384x2048 ![0, 2048] (extf .f32 pr bitsLt_bf16_f32)
        slices_S16384x11264_S16384x2048_0_2048))
        (projB hf hb (extractStridedSlice S16384x1024 ![0, 10240] (extf .f32 pr bitsLt_bf16_f32)
          slices_S16384x11264_S16384x1024_0_10240) wb)))
    (shapeCast S2048x2048 wo shapeCasts_S1x2048x2048_S2048x2048))

theorem layer_eq (x : FVec Ideal S16384x2048 .f32) (ya : FVec Ideal S4x16384x256 .bf16) (hf hb : FVec Ideal S16384x1024 .bf16)
    (pr : FVec Ideal S16384x11264 .bf16) (wa wb : FVec Ideal S1x1024x2048 .f32) (wo : FVec Ideal S1x2048x2048 .f32) :
    layer x ya hf hb pr wa wb wo = merged x ya hf hb pr wa wb wo := by
  funext j
  obtain ⟨i, d, rfl⟩ : ∃ (i : Fin 16384) (d : Fin 2048), j = ix2 i d := ⟨j 0, j 1, eq_ix2 j⟩
  unfold layer merged mrow mix
  pointwise [gate_at, projA_at, projB_at]

/-- The plain merge runs to the array of `merged`. -/
theorem run_merged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = merged (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (layer_eq (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7))), (h c).2⟩) (run m ρ)

end Cert.Reference4Ideal.Value

namespace Cert.Proof

/-- Over the reals the merge call and the plain merge return the same array. -/
theorem merge_algebraic : Cert.algebraic_Kernel4Ideal_Reference4Ideal := by
  pair_intro
  · run_from Cert.Kernel4Ideal.Gen.run_main m g
  · run_from Cert.Reference4Ideal.Value.run_merged m' g'
    exact (Cert.Kernel4Ideal.Value.final m c).symm

end Cert.Proof
-- ==== Proof.MlstmBody.lean ====
/- The mLSTM call's head step as array operations: the weights of a position, the output of a chunk and the carried
   state after it, and the reading of one chunk's blocks. -/
module

public import proofs.«01_k».proof.Proof.Gen.KernelIdeal.Value
public import Idealize.ShloMosaic.Lib.Pipeline.ValueKit
public import Idealize.ShloMosaic.Lib.Pipeline.ReadBack

@[expose] public section

set_option maxRecDepth 65536

noncomputable section

open Idealize.ShloMosaic Idealize.ShloMosaic.TcCoe Idealize.SL.Sem

namespace Cert.KernelIdeal.Value

open Cert.KernelIdeal Cert.KernelIdeal.Gen

/-! ## Blocks of the windows -/

/-- The 128 by 256 block of a window of queries, keys or values at row `ro` and column `co`. -/
def qblk (x : Vec Ideal S1x512x1024 .bf16) (ro co : ℕ) : Vec Ideal S128x256 .bf16 := fun j =>
  x (ix3 0 (Fin.ofNat 512 (ro + (j 0).val)) (Fin.ofNat 1024 (co + (j 1).val)))

/-- The 128 rows of the packed weights from row `ro` on. -/
def ablk (x : Vec Ideal S1x512x128 .bf16) (ro : ℕ) : Vec Ideal S1x128x128 .bf16 := fun j =>
  x (ix3 0 (Fin.ofNat 512 (ro + (j 1).val)) (j 2))

/-- The 128 columns of the packed source weights from column `co` on. -/
def rblk (x : Vec Ideal S1x128x512 .bf16) (co : ℕ) : Vec Ideal S1x128x128 .bf16 := fun j =>
  x (ix3 0 (j 1) (Fin.ofNat 512 (co + (j 2).val)))

/-- One head's matrix of the carried state. -/
def cblk (x : Vec Ideal S8x256x256 .f32) (hd : ℕ) : Vec Ideal S1x256x256 .f32 := fun j => x (ix3 (Fin.ofNat 8 hd) (j 1) (j 2))

/-- One head's normaliser of the carried state. -/
def nblk (x : Vec Ideal S8x256x128 .f32) (hd : ℕ) : Vec Ideal S1x256x128 .f32 := fun j => x (ix3 (Fin.ofNat 8 hd) (j 1) (j 2))

theorem ofNat_eq {n : ℕ} [NeZero n] (k : ℕ) (i : Fin n) (h : k = i.val) : Fin.ofNat n k = i := by
  subst h; exact Fin.ext (Nat.mod_eq_of_lt i.isLt)

theorem ld_qblk (M : Memref sig .tc .vmem S1x512x1024 .bf16) (hM : M.IsWhole) (x : Vec Ideal S1x512x1024 .bf16) (ro co : ℕ)
    (inb : ∀ a, (![0, ro, 0] : Fin 3 → ℕ) a + (![1, 128, 1024] : Fin 3 → ℕ) a ≤ S1x512x1024.size a)
    (inb2 : ∀ a, (![0, co] : Fin 2 → ℕ) a + (![128, 256] : Fin 2 → ℕ) a ≤ S128x1024.size a)
    (h0 : (![1, 128, 1024] : Fin 3 → ℕ) 0 = 1) (hs : ∀ i : Fin 2, (![1, 128, 1024] : Fin 3 → ℕ) i.succ = S128x1024.size i) (h₀) (hR) :
    LoadRect.valAlong (s₀ := (Rect.unit (s := S1x512x1024) ![0, ro, 0] ![1, 128, 1024] inb).shape)
      (lr := (Rect.unit (s := S128x1024) ![0, co] ![128, 256] inb2).toLoadRect)
      (LR := (Rect.unit (s := S128x1024) ![0, co] ![128, 256] inb2).toLoadRect.consLift ![1, 128, 1024] h0 hs) hR (View.readAt (Elt Ideal) M.view
      ((Rect.unit (s := S1x512x1024) ![0, ro, 0] ![1, 128, 1024] inb).withinL
        ((Rect.unit (s := S128x1024) ![0, co] ![128, 256] inb2).toLoadRect.consLift ![1, 128, 1024] h0 hs) h₀) (hM.unread x))
      = qblk x ro co := by
  funext j
  show View.read (Elt Ideal) M.view (hM.unread x) _ = _
  rw [hM.read_unread]
  unfold qblk
  refine congrArg x ?_
  have hx : Shape.reshapeEquiv hR j = Fin.cons ⟨0, Nat.one_pos⟩ j := Shape.reshapeEquiv_cons_one (d := ![128, 256]) _ _
  have h1 := inb 1
  have h2 := inb2 1
  have hj0 : (j 0).val < 128 := (j 0).isLt
  have hj1 : (j 1).val < 256 := (j 1).isLt
  simp only [Matrix.cons_val_one, Matrix.cons_val_zero, Shape.size, Nat.succ_eq_add_one] at h1 h2
  refine (congrArg _ hx).trans ((Rect.idx_withinL _ _ _ _).trans ?_)
  funext a
  apply Fin.ext
  match a with
  | ⟨0, _⟩ => simp [Rect.emb_apply, LoadRect.idx_apply, ix3]
  | ⟨1, _⟩ =>
    show ro + 1 * (0 + 1 * (j 0).val) = (ro + (j 0).val) % 512
    have : ro + 128 ≤ 512 := h1
    rw [Nat.mod_eq_of_lt (by omega)]; omega
  | ⟨2, _⟩ =>
    show 0 + 1 * (co + 1 * (j 1).val) = (co + (j 1).val) % 1024
    have : co + 256 ≤ 1024 := h2
    rw [Nat.mod_eq_of_lt (by omega)]; omega

theorem ld_ablk (x : Vec Ideal S1x512x128 .bf16) (ro : ℕ)
    (inb : ∀ a, (![0, ro, 0] : Fin 3 → ℕ) a + (![1, 128, 128] : Fin 3 → ℕ) a ≤ S1x512x128.size a) :
    View.ld x (Rect.unit (s := S1x512x128) ![0, ro, 0] ![1, 128, 128] inb) = ablk x ro := by
  have h1 : ro + 128 ≤ 512 := inb 1
  funext j
  refine congrArg x ?_
  funext a
  apply Fin.ext
  match a with
  | ⟨0, _⟩ => have : (j 0).val < 1 := (j 0).isLt
              show 0 + 1 * (j 0).val = 0; omega
  | ⟨1, _⟩ => have : (j 1).val < 128 := (j 1).isLt
              show ro + 1 * (j 1).val = (ro + (j 1).val) % 512; rw [Nat.mod_eq_of_lt (by omega)]; omega
  | ⟨2, _⟩ => show 0 + 1 * (j 2).val = (j 2).val; omega

theorem ld_rblk (x : Vec Ideal S1x128x512 .bf16) (co : ℕ)
    (inb : ∀ a, (![0, 0, co] : Fin 3 → ℕ) a + (![1, 128, 128] : Fin 3 → ℕ) a ≤ S1x128x512.size a) :
    View.ld x (Rect.unit (s := S1x128x512) ![0, 0, co] ![1, 128, 128] inb) = rblk x co := by
  have h1 : co + 128 ≤ 512 := inb 2
  funext j
  refine congrArg x ?_
  funext a
  apply Fin.ext
  match a with
  | ⟨0, _⟩ => have : (j 0).val < 1 := (j 0).isLt
              show 0 + 1 * (j 0).val = 0; omega
  | ⟨1, _⟩ => show 0 + 1 * (j 1).val = (j 1).val; omega
  | ⟨2, _⟩ => have : (j 2).val < 128 := (j 2).isLt
              show co + 1 * (j 2).val = (co + (j 2).val) % 512; rw [Nat.mod_eq_of_lt (by omega)]; omega

theorem ld_cblk (x : Vec Ideal S8x256x256 .f32) (hd : ℕ)
    (inb : ∀ a, (![hd, 0, 0] : Fin 3 → ℕ) a + (![1, 256, 256] : Fin 3 → ℕ) a ≤ S8x256x256.size a) :
    View.ld x (Rect.unit (s := S8x256x256) ![hd, 0, 0] ![1, 256, 256] inb) = cblk x hd := by
  have h1 : hd + 1 ≤ 8 := inb 0
  funext j
  refine congrArg x ?_
  funext a
  apply Fin.ext
  match a with
  | ⟨0, _⟩ => have : (j 0).val < 1 := (j 0).isLt
              show hd + 1 * (j 0).val = hd % 8; rw [Nat.mod_eq_of_lt (by omega)]; omega
  | ⟨1, _⟩ => show 0 + 1 * (j 1).val = (j 1).val; omega
  | ⟨2, _⟩ => show 0 + 1 * (j 2).val = (j 2).val; omega

theorem ld_nblk (x : Vec Ideal S8x256x128 .f32) (hd : ℕ)
    (inb : ∀ a, (![hd, 0, 0] : Fin 3 → ℕ) a + (![1, 256, 128] : Fin 3 → ℕ) a ≤ S8x256x128.size a) :
    View.ld x (Rect.unit (s := S8x256x128) ![hd, 0, 0] ![1, 256, 128] inb) = nblk x hd := by
  have h1 : hd + 1 ≤ 8 := inb 0
  funext j
  refine congrArg x ?_
  funext a
  apply Fin.ext
  match a with
  | ⟨0, _⟩ => have : (j 0).val < 1 := (j 0).isLt
              show hd + 1 * (j 0).val = hd % 8; rw [Nat.mod_eq_of_lt (by omega)]; omega
  | ⟨1, _⟩ => show 0 + 1 * (j 1).val = (j 1).val; omega
  | ⟨2, _⟩ => show 0 + 1 * (j 2).val = (j 2).val; omega

/-! ## One head's step -/

/-- What one direction of a grid point reads: the decay factors with their place, the packed weights, the queries, keys
    and values, which sources a position sees, and the order of the chunks. -/
structure Dir where
  keep : Vec Ideal S1024 .f32
  off : BitVec 32 → BitVec 32 → Fin 1 → ℕ
  bc : Vec Ideal S128x512 .bf16
  q : Vec Ideal S1x512x1024 .bf16
  k : Vec Ideal S1x512x1024 .bf16
  v : Vec Ideal S1x512x1024 .bf16
  a : Vec Ideal S1x512x128 .bf16
  r : Vec Ideal S1x128x512 .bf16
  mask : IVec S128x128 1
  pos : ℕ → ℕ

/-- The exponents of a chunk for one head: its lanes of the packed weights against the packed source weights. -/
def emat (hd : ℕ) (bc : Vec Ideal S128x512 .bf16) (a r : Vec Ideal S1x128x128 .bf16) : FVec Ideal S128x512 .f32 :=
  matmul dot_S128x128_S128x512_S128x512_1_0_0_1_n_n none
    (truncf .bf16 (select (cmpi .eq k0_pay7 (broadcast S128x128 (BitVec.ofNat 32 hd)))
      (extf .f32 (shapeCast S128x128 a shapeCasts_S1x128x128_S128x128) bitsLt_bf16_f32)
      (broadcast S128x128 (Scalar.ofBits .f32 0x00000000#32))) bitsLt_bf16_f32)
    (k0_pay11 (View.ld bc (Rect.unit (s := S128x512) ![0, 0] ![128, 128] (by decide))) r
      (View.ld bc (Rect.unit (s := S128x512) ![0, 128] ![128, 384] (by decide))))
    (constant S128x512 .f32 0x00000000#32)

/-- The decays: two to the exponents of the sources a position sees. -/
def decayOf (mask : IVec S128x128 1) (e : FVec Ideal S128x512 .f32) : FVec Ideal S128x128 .f32 :=
  exp2 (select mask (extractStridedSlice S128x128 ![0, 0] e slices_S128x512_o0_0_S128x128)
    (broadcast S128x128 (Scalar.ofBits .f32 0xFF800000#32)))

/-- The three weights of a position, each repeated over 128 lanes. -/
def restOf (e : FVec Ideal S128x512 .f32) : FVec Ideal S128x384 .f32 :=
  exp2 (extractStridedSlice S128x384 ![0, 128] e slices_S128x512_o0_128_S128x384)

def iwOf (e : FVec Ideal S128x512 .f32) : FVec Ideal S128x128 .f32 :=
  extractStridedSlice S128x128 ![0, 0] (restOf e) slices_S128x384_o0_0_S128x128

def clampOf (e : FVec Ideal S128x512 .f32) : FVec Ideal S128x128 .f32 :=
  extractStridedSlice S128x128 ![0, 128] (restOf e) slices_S128x384_o0_128_S128x128

def wOf (e : FVec Ideal S128x512 .f32) : FVec Ideal S128x128 .f32 :=
  extractStridedSlice S128x128 ![0, 256] (restOf e) slices_S128x384_o0_256_S128x128

namespace Dir

variable (D : Dir) (hd : ℕ)

/-- The exponents of head `hd` at chunk `p` of the block. -/
def e (p : ℕ) : FVec Ideal S128x512 .f32 := emat hd D.bc (ablk D.a (128 * p)) (rblk D.r (128 * p))

def qb (p : ℕ) : Vec Ideal S128x256 .bf16 := qblk D.q (128 * p) (256 * (hd % 4))
def kb (p : ℕ) : Vec Ideal S128x256 .bf16 := qblk D.k (128 * p) (256 * (hd % 4))
def vb (p : ℕ) : Vec Ideal S128x256 .bf16 := qblk D.v (128 * p) (256 * (hd % 4))

/-- The factor by which the state decays over chunk `p`. -/
def kp (p : ℕ) : Elt Ideal .f32 := D.keep (ix1 (Fin.ofNat 1024 (D.off (BitVec.ofNat 32 p) (BitVec.ofNat 32 hd) 0)))

/-- The matrix state after `n` chunks of the block. -/
def ct (s : Vec Ideal S8x256x256 .f32) : ℕ → Vec Ideal S1x256x256 .f32
  | 0 => cblk s hd
  | n + 1 => k0_pay3 (wOf (D.e hd (D.pos n))) (D.kp hd (D.pos n)) (D.kb hd (D.pos n)) (D.vb hd (D.pos n))
      (shapeCast S256x256 (ct s n) shapeCasts_S1x256x256_S256x256)

/-- The normaliser after `n` chunks of the block. -/
def nm (s : Vec Ideal S8x256x128 .f32) : ℕ → Vec Ideal S1x256x128 .f32
  | 0 => nblk s hd
  | n + 1 => k0_pay4 (wOf (D.e hd (D.pos n))) (D.kp hd (D.pos n)) (D.kb hd (D.pos n)) (D.vb hd (D.pos n))
      (shapeCast S256x128 (nm s n) shapeCasts_S1x256x128_S256x128)

/-- The output of the `n`-th chunk of the block. -/
def out (s : Vec Ideal S8x256x256 .f32) (s' : Vec Ideal S8x256x128 .f32) (n : ℕ) : Vec Ideal S1x128x256 .bf16 :=
  k0_pay420 (k0_pay419 k0_pay8 (decayOf D.mask (D.e hd (D.pos n))) (iwOf (D.e hd (D.pos n))) (clampOf (D.e hd (D.pos n)))
    (D.qb hd (D.pos n)) (D.kb hd (D.pos n)) (D.vb hd (D.pos n)) (D.ct hd s n) (D.nm hd s' n))

end Dir

/-- The forward direction of grid point `i`. -/
def fwd (i : grid0.Coords) (x0 : Vec Ideal S1024 .f32) (x1 : Vec Ideal S128x512 .bf16) (q k v : Vec Ideal S1x512x1024 .bf16)
    (a : Vec Ideal S1x512x128 .bf16) (r : Vec Ideal S1x128x512 .bf16) : Dir :=
  ⟨x0, k0_off1 i, x1, q, k, v, a, r, k0_pay9, fun n => n⟩

/-- The backward direction: the chunks in the opposite order. -/
def bwd (i : grid0.Coords) (x0 : Vec Ideal S1024 .f32) (x1 : Vec Ideal S128x512 .bf16) (q k v : Vec Ideal S1x512x1024 .bf16)
    (a : Vec Ideal S1x512x128 .bf16) (r : Vec Ideal S1x128x512 .bf16) : Dir :=
  ⟨x0, k0_off2 i, x1, q, k, v, a, r, k0_pay10, fun n => 3 - n⟩

theorem ld_keep (x : Vec Ideal S1024 .f32) (off : Fin 1 → ℕ) (inb : ∀ a, off a + (![1] : Fin 1 → ℕ) a ≤ S1024.size a) (h) :
    View.ld x (Rect.unit (s := S1024) off ![1] inb) (Shape.Idx.first h) = x (ix1 (Fin.ofNat 1024 (off 0))) := by
  have h1 : off 0 + 1 ≤ 1024 := inb 0
  refine congrArg x ?_
  funext a
  apply Fin.ext
  match a with
  | ⟨0, _⟩ => show off 0 + 1 * 0 = off 0 % 1024; rw [Nat.mod_eq_of_lt (by omega)]; omega

/-! ## Arrays put together from one block per head -/

/-- One 256 by 256 matrix per head as one array. -/
def stackC (f : ℕ → Vec Ideal S1x256x256 .f32) : Vec Ideal S8x256x256 .f32 := fun j => f (j 0).val (ix3 0 (j 1) (j 2))

/-- One 256 by 128 matrix per head as one array. -/
def stackN (f : ℕ → Vec Ideal S1x256x128 .f32) : Vec Ideal S8x256x128 .f32 := fun j => f (j 0).val (ix3 0 (j 1) (j 2))

/-- One 128 by 256 block per chunk and head as one array. -/
def tileO (f : ℕ → ℕ → Vec Ideal S1x128x256 .bf16) : Vec Ideal S1x512x1024 .bf16 := fun j =>
  f ((j 1).val / 128) ((j 2).val / 256) (ix3 0 (Fin.ofNat 128 ((j 1).val % 128)) (Fin.ofNat 256 ((j 2).val % 256)))

theorem stackC_piece (f : ℕ → Vec Ideal S1x256x256 .f32) (hd : ℕ)
    (inb : ∀ a, (![hd, 0, 0] : Fin 3 → ℕ) a + (![1, 256, 256] : Fin 3 → ℕ) a ≤ S8x256x256.size a)
    (x : (Rect.unit (s := S8x256x256) ![hd, 0, 0] ![1, 256, 256] inb).shape.Idx) :
    f hd x = stackC f ((Rect.unit (s := S8x256x256) ![hd, 0, 0] ![1, 256, 256] inb).emb x) := by
  have h0 : (x 0).val < 1 := (x 0).isLt
  have e0 : (((Rect.unit (s := S8x256x256) ![hd, 0, 0] ![1, 256, 256] inb).emb x) 0).val = hd := by
    show hd + 1 * (x 0).val = hd; omega
  unfold stackC
  rw [e0]
  refine congrArg (f hd) ?_
  funext a
  apply Fin.ext
  match a with
  | ⟨0, _⟩ => show (x 0).val = 0; omega
  | ⟨1, _⟩ => show (x 1).val = 0 + 1 * (x 1).val; omega
  | ⟨2, _⟩ => show (x 2).val = 0 + 1 * (x 2).val; omega

theorem stackN_piece (f : ℕ → Vec Ideal S1x256x128 .f32) (hd : ℕ)
    (inb : ∀ a, (![hd, 0, 0] : Fin 3 → ℕ) a + (![1, 256, 128] : Fin 3 → ℕ) a ≤ S8x256x128.size a)
    (x : (Rect.unit (s := S8x256x128) ![hd, 0, 0] ![1, 256, 128] inb).shape.Idx) :
    f hd x = stackN f ((Rect.unit (s := S8x256x128) ![hd, 0, 0] ![1, 256, 128] inb).emb x) := by
  have h0 : (x 0).val < 1 := (x 0).isLt
  have e0 : (((Rect.unit (s := S8x256x128) ![hd, 0, 0] ![1, 256, 128] inb).emb x) 0).val = hd := by
    show hd + 1 * (x 0).val = hd; omega
  unfold stackN
  rw [e0]
  refine congrArg (f hd) ?_
  funext a
  apply Fin.ext
  match a with
  | ⟨0, _⟩ => show (x 0).val = 0; omega
  | ⟨1, _⟩ => show (x 1).val = 0 + 1 * (x 1).val; omega
  | ⟨2, _⟩ => show (x 2).val = 0 + 1 * (x 2).val; omega

theorem tileO_piece (f : ℕ → ℕ → Vec Ideal S1x128x256 .bf16) (ro co : ℕ)
    (inb : ∀ a, (![0, ro, co] : Fin 3 → ℕ) a + (![1, 128, 256] : Fin 3 → ℕ) a ≤ S1x512x1024.size a) (p h : ℕ)
    (hp : ro = 128 * p) (hh : co = 256 * h)
    (x : (Rect.unit (s := S1x512x1024) ![0, ro, co] ![1, 128, 256] inb).shape.Idx) :
    f p h x = tileO f ((Rect.unit (s := S1x512x1024) ![0, ro, co] ![1, 128, 256] inb).emb x) := by
  have h0 : (x 0).val < 1 := (x 0).isLt
  have h1 : (x 1).val < 128 := (x 1).isLt
  have h2 : (x 2).val < 256 := (x 2).isLt
  have e1 : (((Rect.unit (s := S1x512x1024) ![0, ro, co] ![1, 128, 256] inb).emb x) 1).val = 128 * p + (x 1).val := by
    show ro + 1 * (x 1).val = _; omega
  have e2 : (((Rect.unit (s := S1x512x1024) ![0, ro, co] ![1, 128, 256] inb).emb x) 2).val = 256 * h + (x 2).val := by
    show co + 1 * (x 2).val = _; omega
  unfold tileO
  rw [e1, e2, show (128 * p + (x 1).val) / 128 = p by omega, show (256 * h + (x 2).val) / 256 = h by omega]
  refine congrArg (f p h) ?_
  funext a
  apply Fin.ext
  match a with
  | ⟨0, _⟩ => show (x 0).val = 0; omega
  | ⟨1, _⟩ => show (x 1).val = ((128 * p + (x 1).val) % 128) % 128; omega
  | ⟨2, _⟩ => show (x 2).val = ((256 * h + (x 2).val) % 256) % 256; omega

end Cert.KernelIdeal.Value
-- ==== Proof.MlstmMath.lean ====
/- The chunked recurrence of one head in one direction, as plain mathematics over the extended reals, and the sums
   by which packed weights are read. -/
module

public import Idealize.ShloMosaic.Lib.Pipeline.ValueKit

@[expose] public section

noncomputable section

open Idealize.ShloMosaic Idealize.ShloMosaic.TcCoe

namespace Cert.Mlstm

/-- A value read as an extended real. -/
abbrev er (x : EReal) : EReal := x

/-- What the recurrence of one head reads, chunk by chunk in the order in which it meets them. -/
structure Seq where
  q : ℕ → Fin 128 → Fin 256 → EReal
  k : ℕ → Fin 128 → Fin 256 → EReal
  v : ℕ → Fin 128 → Fin 256 → EReal
  /-- how much source `s` of a chunk counts at position `j` of it -/
  dec : ℕ → Fin 128 → Fin 128 → EReal
  /-- how much the state before a chunk counts at position `j` of it -/
  iw : ℕ → Fin 128 → EReal
  /-- the least denominator -/
  clamp : ℕ → Fin 128 → EReal
  /-- how much source `s` of a chunk counts in the state after it -/
  w : ℕ → Fin 128 → EReal
  /-- how much of the state before a chunk is left after it -/
  keep : ℕ → EReal

namespace Seq

variable (S : Seq)

/-- The matrix state before chunk `n`. -/
def C : ℕ → Fin 256 → Fin 256 → EReal
  | 0 => fun _ _ => 0
  | n + 1 => fun a b => S.keep n * C n a b + ∑ s : Fin 128, S.k n s a * (S.v n s b * S.w n s)

/-- The normaliser before chunk `n`. -/
def N : ℕ → Fin 256 → EReal
  | 0 => fun _ => 0
  | n + 1 => fun a => S.keep n * N n a + ∑ s : Fin 128, S.k n s a * S.w n s

/-- The decayed scores of a chunk. -/
def P (n : ℕ) (j s : Fin 128) : EReal := (∑ i : Fin 256, S.q n j i * S.k n s i) * S.dec n j s

/-- The numerator at position `j` of chunk `n`. -/
def num (n : ℕ) (j : Fin 128) (b : Fin 256) : EReal :=
  (∑ s : Fin 128, S.P n j s * S.v n s b) + S.iw n j * ∑ a : Fin 256, S.q n j a * S.C n a b

/-- The denominator at position `j` of chunk `n`, before its magnitude is bounded below. -/
def den (n : ℕ) (j : Fin 128) : EReal := (∑ s : Fin 128, S.P n j s) + S.iw n j * ∑ a : Fin 256, S.q n j a * S.N n a

/-- The output at position `j` of chunk `n`. -/
def out (n : ℕ) (j : Fin 128) (b : Fin 256) : EReal :=
  S.num n j b * Ideal.div 1 (max (max (S.den n j) (-S.den n j)) (S.clamp n j))

end Seq

/-- A sum over 128 lanes that keeps lane `hd` of every eight is a sum over sixteen terms. -/
theorem sum_lanes (f : Fin 128 → EReal) (hd : Fin 8) :
    ∑ l : Fin 128, (if l.val % 8 = hd.val then f l else 0) = ∑ t : Fin 16, f ⟨8 * t.val + hd.val, by omega⟩ := by
  rw [← Fin.sum_mul_add_congr (S := 16) (n := 8) (F := fun t u => if u = hd then f ⟨8 * t.val + hd.val, by omega⟩ else 0)
    (f := fun l : Fin 128 => if l.val % 8 = hd.val then f l else 0) ?_]
  · refine Finset.sum_congr rfl fun t _ => ?_
    rw [Finset.sum_ite_eq' Finset.univ hd]
    simp
  · intro t u hl
    have hu := u.isLt
    have hh := hd.isLt
    by_cases e : u = hd
    · subst e
      have : (t.val * 8 + u.val) % 8 = u.val := by omega
      simp only [this, if_true]
      congr 1
      apply Fin.ext
      show 8 * t.val + u.val = t.val * 8 + u.val
      omega
    · have : ¬ (t.val * 8 + u.val) % 8 = hd.val := by
        intro h; apply e; apply Fin.ext; omega
      simp only [this, e, if_false]

/-- Of sixteen terms, the three of group `g`. -/
theorem sum_group (f : ℕ → EReal) (g : ℕ) (hg : g < 4) :
    ∑ t : Fin 16, f t.val * (if t.val / 3 = g then 1 else 0) = ∑ t : Fin 3, f (3 * g + t.val) := by
  rcases (by omega : g = 0 ∨ g = 1 ∨ g = 2 ∨ g = 3) with rfl | rfl | rfl | rfl <;>
    simp [Fin.sum_univ_succ]

end Cert.Mlstm
-- ==== Proof.MlstmStep.lean ====
/- The head step of the mLSTM call, entry by entry. -/
module

public import proofs.«01_k».proof.Proof.MlstmBody
public import proofs.«01_k».proof.Proof.MlstmMath

@[expose] public section

set_option maxRecDepth 65536

noncomputable section

open Idealize.ShloMosaic Idealize.ShloMosaic.TcCoe Idealize.SL.Sem

namespace Cert.KernelIdeal.Value

open Cert.KernelIdeal Cert.KernelIdeal.Gen Cert.Mlstm

/-- The lane test: lane `x` belongs to head `hd` of its group of eight. -/
theorem lane : ∀ x : Fin 128, ∀ hd : Fin 8,
    IntOp.cmpi CmpIPredicate.eq (k0_pay7 (ix2 (0 : Fin 128) x)) (BitVec.ofNat 32 hd.val) = if x.val % 8 = hd.val then 1#1 else 0#1 := by
  decide +kernel

theorem lane_row (j x : Fin 128) : k0_pay7 (ix2 j x) = k0_pay7 (ix2 (0 : Fin 128) x) := by
  pointwise [k0_pay7]

/-- The exponents, lane by lane. -/
theorem emat_lanes (hd : Fin 8) (bc : Vec Ideal S128x512 .bf16) (a r : Vec Ideal S1x128x128 .bf16) (j : Fin 128) (c : Fin 512) :
    emat hd.val bc a r (ix2 j c) = ∑ l : Fin 128, if l.val % 8 = hd.val then
      er (a (ix3 0 j l)) * (if h : c.val < 128 then er (bc (ix2 l c)) + er (r (ix3 0 l ⟨c.val, h⟩)) else er (bc (ix2 l c))) else 0 := by
  have key : emat hd.val bc a r (ix2 j c) = ∑ l : Fin 128,
      Scalar.select (IntOp.cmpi CmpIPredicate.eq (k0_pay7 (ix2 j l)) (BitVec.ofNat 32 hd.val))
        (er (a (ix3 0 j l)) * (if h : c.val < 128 then er (bc (ix2 l c)) + er (r (ix3 0 l ⟨c.val, h⟩)) else er (bc (ix2 l c)))) 0 := by
    pointwise [emat, k0_pay11]
    refine Finset.sum_congr rfl fun l _ => ?_
    congr 2
    split
    · rfl
    · congr 2; apply Fin.ext; show 128 + (c.val - 128) = c.val; omega
  rw [key]
  refine Finset.sum_congr rfl fun l _ => ?_
  rw [lane_row, lane, Scalar.select_def]
  split <;> rfl

variable (hd : Fin 8) (bc : Vec Ideal S128x512 .bf16)
  (hbc : ∀ (l : Fin 128) (c : Fin 512), bc (ix2 l c) = er (if l.val / 24 = c.val / 128 then 1 else 0))
  (a r : Vec Ideal S1x128x128 .bf16)

include hbc in
/-- The exponent of the decay from source `s` to position `j`. -/
theorem emat_decay (j s : Fin 128) : emat hd.val bc a r (ix2 j ⟨s.val, by omega⟩)
    = ∑ t : Fin 16, er (a (ix3 0 j ⟨8 * t.val + hd.val, by omega⟩))
        * ((if t.val < 3 then 1 else 0) + er (r (ix3 0 ⟨8 * t.val + hd.val, by omega⟩ s))) := by
  have hs := s.isLt
  rw [emat_lanes, sum_lanes (fun l => er (a (ix3 0 j l)) * (if h : s.val < 128 then er (bc (ix2 l ⟨s.val, by omega⟩))
    + er (r (ix3 0 l ⟨s.val, h⟩)) else er (bc (ix2 l ⟨s.val, by omega⟩))))]
  refine Finset.sum_congr rfl fun t _ => ?_
  have hh := hd.isLt
  rw [dif_pos hs, hbc]
  congr 2
  have : (8 * t.val + hd.val) / 24 = s.val / 128 ↔ t.val < 3 := by omega
  simp only [er, this]

include hbc in
/-- The exponent of weight `g` of position `j`, whatever the lane `c`. -/
theorem emat_rest (j : Fin 128) (c : Fin 512) (g : ℕ) (hg : 1 ≤ g) (hc : c.val / 128 = g) : emat hd.val bc a r (ix2 j c)
    = ∑ t : Fin 3, er (a (ix3 0 j (Fin.ofNat 128 (8 * (3 * g + t.val) + hd.val)))) := by
  have hcl := c.isLt
  have hh := hd.isLt
  rw [emat_lanes, sum_lanes (fun l => er (a (ix3 0 j l)) * (if h : c.val < 128 then er (bc (ix2 l c))
    + er (r (ix3 0 l ⟨c.val, h⟩)) else er (bc (ix2 l c)))),
    ← sum_group (fun t => er (a (ix3 0 j (Fin.ofNat 128 (8 * t + hd.val))))) g (by omega)]
  refine Finset.sum_congr rfl fun t _ => ?_
  rw [dif_neg (by omega), hbc]
  have ht := t.isLt
  have h1 : (8 * t.val + hd.val) / 24 = c.val / 128 ↔ t.val / 3 = g := by omega
  simp only [er, h1]
  rw [ofNat_eq (8 * t.val + hd.val) ⟨8 * t.val + hd.val, by omega⟩ rfl]

theorem decay_at (mask : IVec S128x128 1) (e : FVec Ideal S128x512 .f32) (j s : Fin 128) :
    decayOf mask e (ix2 j s)
      = Ideal.exp2 (Scalar.select (mask (ix2 j s)) (er (e (ix2 j ⟨s.val, by omega⟩))) (Ideal.ofBits FTy.f32 4286578688#32)) := by
  pointwise [decayOf]
  rfl

theorem iw_at (e : FVec Ideal S128x512 .f32) (j s : Fin 128) :
    iwOf e (ix2 j s) = Ideal.exp2 (er (e (ix2 j ⟨128 + s.val, by omega⟩))) := by
  pointwise [iwOf, restOf]
  rfl

theorem clamp_at (e : FVec Ideal S128x512 .f32) (j s : Fin 128) :
    clampOf e (ix2 j s) = Ideal.exp2 (er (e (ix2 j ⟨256 + s.val, by omega⟩))) := by
  pointwise [clampOf, restOf]
  refine congrArg (fun x : Fin 512 => Ideal.exp2 (er (e (ix2 j x)))) (Fin.ext ?_)
  show 128 + (128 + s.val) = 256 + s.val; omega

theorem w_at (e : FVec Ideal S128x512 .f32) (j s : Fin 128) :
    wOf e (ix2 j s) = Ideal.exp2 (er (e (ix2 j ⟨384 + s.val, by omega⟩))) := by
  pointwise [wOf, restOf]
  refine congrArg (fun x : Fin 512 => Ideal.exp2 (er (e (ix2 j x)))) (Fin.ext ?_)
  show 128 + (256 + s.val) = 384 + s.val; omega

theorem ct_at (w : FVec Ideal S128x128 .f32) (kp : Elt Ideal .f32) (k v : Vec Ideal S128x256 .bf16) (ct : FVec Ideal S256x256 .f32)
    (W : Fin 128 → EReal) (hw : ∀ s c, w (ix2 s c) = W s) (a b : Fin 256) :
    k0_pay3 w kp k v ct (ix3 0 a b) = er kp * er (ct (ix2 a b)) + ∑ s : Fin 128, er (k (ix2 s a)) * (er (v (ix2 s b)) * W s) := by
  pointwise [k0_pay3, k0_pay2]
  simp only [hw, dite_eq_ite, ite_self]

theorem nm_at (w : FVec Ideal S128x128 .f32) (kp : Elt Ideal .f32) (k v : Vec Ideal S128x256 .bf16) (nm : FVec Ideal S256x128 .f32)
    (W : Fin 128 → EReal) (hw : ∀ s c, w (ix2 s c) = W s) (a : Fin 256) (b : Fin 128) :
    k0_pay4 w kp k v nm (ix3 0 a b) = er kp * er (nm (ix2 a b)) + ∑ s : Fin 128, er (k (ix2 s a)) * W s := by
  pointwise [k0_pay4, k0_pay2]
  simp only [hw]

theorem out_at (dec iw cl : FVec Ideal S128x128 .f32) (q k v : Vec Ideal S128x256 .bf16) (ct : Vec Ideal S1x256x256 .f32)
    (nm : Vec Ideal S1x256x128 .f32) (W L : Fin 128 → EReal) (N : Fin 256 → EReal) (hw : ∀ s c, iw (ix2 s c) = W s)
    (hl : ∀ s c, cl (ix2 s c) = L s) (hn : ∀ a c, nm (ix3 0 a c) = N a) (j : Fin 128) (b : Fin 256) :
    k0_pay420 (k0_pay419 k0_pay8 dec iw cl q k v ct nm) (ix3 0 j b)
      = ((∑ s : Fin 128, (∑ i : Fin 256, er (q (ix2 j i)) * er (k (ix2 s i))) * er (dec (ix2 j s)) * er (v (ix2 s b)))
          + W j * ∑ a : Fin 256, er (q (ix2 j a)) * er (ct (ix3 0 a b)))
        * Ideal.div 1 (max (max ((∑ s : Fin 128, (∑ i : Fin 256, er (q (ix2 j i)) * er (k (ix2 s i))) * er (dec (ix2 j s)))
            + W j * ∑ a : Fin 256, er (q (ix2 j a)) * N a)
          (-((∑ s : Fin 128, (∑ i : Fin 256, er (q (ix2 j i)) * er (k (ix2 s i))) * er (dec (ix2 j s)))
            + W j * ∑ a : Fin 256, er (q (ix2 j a)) * N a))) (L j)) := by
  pointwise [k0_pay420, k0_pay419, k0_pay8, k0_pay417, k0_pay418]
  simp only [hw, hl, hn, dite_eq_ite, ite_self]
  rfl

end Cert.KernelIdeal.Value
-- ==== Proof.MlstmPoint.lean ====
/- One grid point of the mLSTM call follows the recurrence of each head through four chunks. -/
module

public import proofs.«01_k».proof.Proof.MlstmStep

@[expose] public section

noncomputable section

open Idealize.ShloMosaic Idealize.ShloMosaic.TcCoe Idealize.SL.Sem

namespace Cert.KernelIdeal.Value

open Cert.KernelIdeal Cert.KernelIdeal.Gen Cert.Mlstm

/-- At the grid point that meets chunks `n` to `n + 3`, head `hd` of direction `D` reads what the sequence says. -/
structure Reads (D : Dir) (hd : ℕ) (S : Seq) (n : ℕ) : Prop where
  q : ∀ p < 4, ∀ j i, D.qb hd (D.pos p) (ix2 j i) = S.q (n + p) j i
  k : ∀ p < 4, ∀ j i, D.kb hd (D.pos p) (ix2 j i) = S.k (n + p) j i
  v : ∀ p < 4, ∀ j i, D.vb hd (D.pos p) (ix2 j i) = S.v (n + p) j i
  kp : ∀ p < 4, D.kp hd (D.pos p) = S.keep (n + p)
  dec : ∀ p < 4, ∀ j s, decayOf D.mask (D.e hd (D.pos p)) (ix2 j s) = S.dec (n + p) j s
  iw : ∀ p < 4, ∀ j l, iwOf (D.e hd (D.pos p)) (ix2 j l) = S.iw (n + p) j
  clamp : ∀ p < 4, ∀ j l, clampOf (D.e hd (D.pos p)) (ix2 j l) = S.clamp (n + p) j
  w : ∀ p < 4, ∀ j l, wOf (D.e hd (D.pos p)) (ix2 j l) = S.w (n + p) j

namespace Reads

variable {D : Dir} {hd : Fin 8} {S : Seq} {n : ℕ} (R : Reads D hd.val S n)
  {s : Vec Ideal S8x256x256 .f32} {s' : Vec Ideal S8x256x128 .f32}
include R

theorem ct (hs : ∀ a b, s (ix3 hd a b) = S.C n a b) (a b : Fin 256) :
    ∀ p ≤ 4, D.ct hd.val s p (ix3 0 a b) = S.C (n + p) a b
  | 0, _ => by
    refine Eq.trans ?_ (hs a b)
    show s (ix3 (Fin.ofNat 8 hd.val) a b) = _
    rw [ofNat_eq hd.val hd rfl]
  | p + 1, hp => by
    refine (ct_at _ _ _ _ _ (S.w (n + p)) (R.w p (by omega)) a b).trans ?_
    have e : shapeCast S256x256 (D.ct hd.val s p) shapeCasts_S1x256x256_S256x256 (ix2 a b) = S.C (n + p) a b := by
      refine Eq.trans ?_ (ct hs a b p (by omega))
      pointwise
    simp only [er, R.kp p (by omega), R.k p (by omega), R.v p (by omega), e]
    rfl

theorem nm (hs : ∀ a b, s' (ix3 hd a b) = S.N n a) (a : Fin 256) (b : Fin 128) :
    ∀ p ≤ 4, D.nm hd.val s' p (ix3 0 a b) = S.N (n + p) a
  | 0, _ => by
    refine Eq.trans ?_ (hs a b)
    show s' (ix3 (Fin.ofNat 8 hd.val) a b) = _
    rw [ofNat_eq hd.val hd rfl]
  | p + 1, hp => by
    refine (nm_at _ _ _ _ _ (S.w (n + p)) (R.w p (by omega)) a b).trans ?_
    have e : shapeCast S256x128 (D.nm hd.val s' p) shapeCasts_S1x256x128_S256x128 (ix2 a b) = S.N (n + p) a := by
      refine Eq.trans ?_ (nm hs a b p (by omega))
      pointwise
    simp only [er, R.kp p (by omega), R.k p (by omega), e]
    rfl

theorem out (hs : ∀ a b, s (ix3 hd a b) = S.C n a b) (hs' : ∀ a b, s' (ix3 hd a b) = S.N n a) (p : ℕ) (hp : p < 4)
    (j : Fin 128) (b : Fin 256) : D.out hd.val s s' p (ix3 0 j b) = S.out (n + p) j b := by
  refine (out_at _ _ _ _ _ _ _ _ (S.iw (n + p)) (S.clamp (n + p)) (S.N (n + p)) (R.iw p hp) (R.clamp p hp)
    (fun a c => R.nm hs' a c p (by omega)) j b).trans ?_
  simp only [er, R.q p hp, R.k p hp, R.v p hp, R.dec p hp, R.ct hs _ _ p (by omega)]
  rfl

end Reads

end Cert.KernelIdeal.Value
-- ==== Proof.MlstmModel.lean ====
/- What the recurrence of one head in one direction reads of the arrays: rows of the projections for queries, keys and
   values, and the log-weights packed sixteen terms to a position. -/
module

public import proofs.«01_k».proof.Proof.MlstmMath

@[expose] public section

noncomputable section

open Idealize.ShloMosaic Idealize.ShloMosaic.TcCoe

namespace Cert.Mlstm

/-- The chunk that direction `d` meets as its `n`th. -/
def chunk (d : Fin 2) (n : ℕ) : ℕ := if d.val = 0 then n else 31 - n

/-- Position `j` of that chunk. -/
def row (d : Fin 2) (n : ℕ) (j : Fin 128) : Fin 4096 := ⟨(128 * chunk d n + j.val) % 4096, by omega⟩

/-- The lane of term `t` of head `h` in direction `d`. -/
def lane8 (t : ℕ) (d : Fin 2) (h : Fin 4) : Fin 128 := ⟨(8 * t + (4 * d.val + h.val)) % 128, by omega⟩

/-- The call's arrays. -/
structure Arrays where
  qk : Fin 4 → Fin 4096 → Fin 2048 → EReal
  pv : Fin 4 → Fin 4096 → Fin 11264 → EReal
  am : Fin 4 → Fin 4096 → Fin 128 → EReal
  rr : Fin 4 → Fin 128 → Fin 4096 → EReal
  kp : Fin 4 → Fin 32 → Fin 128 → EReal

namespace Arrays

variable (A : Arrays) (d : Fin 2) (b h : Fin 4)

/-- Sum of the three terms of group `g`. -/
def weight (g n : ℕ) (j : Fin 128) : EReal := ∑ t : Fin 3, A.am b (row d n j) (lane8 (3 * g + t.val) d h)

/-- The log2 of how much source `s` counts at position `j`: a source not yet met counts nothing. -/
def logDecay (n : ℕ) (j s : Fin 128) : EReal :=
  if (if d.val = 0 then s.val ≤ j.val else j.val ≤ s.val) then
    ∑ t : Fin 16, A.am b (row d n j) (lane8 t.val d h)
      * ((if t.val < 3 then 1 else 0) + A.rr b (lane8 t.val d h) (row d n s))
  else Ideal.ofBits FTy.f32 4286578688#32

/-- What the recurrence of head `h` of sequence `b` reads in direction `d`. -/
def seq : Seq where
  q n j i := A.qk b (row d n j) ⟨256 * h.val + i.val, by omega⟩
  k n j i := A.qk b (row d n j) ⟨1024 + (256 * h.val + i.val), by omega⟩
  v n j i := A.pv b (row d n j) ⟨9216 + (256 * h.val + i.val), by omega⟩
  dec n j s := Ideal.exp2 (A.logDecay d b h n j s)
  iw n j := Ideal.exp2 (A.weight d b h 1 n j)
  clamp n j := Ideal.exp2 (A.weight d b h 2 n j)
  w n j := Ideal.exp2 (A.weight d b h 3 n j)
  keep n := A.kp b ⟨chunk d n % 32, by omega⟩ ⟨4 * d.val + h.val, by omega⟩

end Arrays

end Cert.Mlstm

end
-- ==== Proof.MlstmReads.lean ====
/- From the arrays to one head's step: where the blocks of a grid point are the arrays' rows, head `h` of direction `d` reads
   what its sequence says. -/
module

public import proofs.«01_k».proof.Proof.MlstmPoint
public import proofs.«01_k».proof.Proof.MlstmModel

@[expose] public section

noncomputable section

open Idealize.ShloMosaic Idealize.ShloMosaic.TcCoe Idealize.SL.Sem

namespace Cert.KernelIdeal.Value

open Cert.KernelIdeal Cert.KernelIdeal.Gen Cert.Mlstm

/-- The blocks direction `d` of sequence `b` reads at the grid point that meets chunks `n` to `n + 3` are the arrays' rows. -/
structure Covers (D : Dir) (A : Arrays) (d : Fin 2) (b : Fin 4) (n : ℕ) : Prop where
  q : ∀ p < 4, ∀ (j : Fin 128) (i : Fin 1024), D.q (ix3 0 (Fin.ofNat 512 (128 * D.pos p + j.val)) i)
    = A.qk b (row d (n + p) j) ⟨i.val, by omega⟩
  k : ∀ p < 4, ∀ (j : Fin 128) (i : Fin 1024), D.k (ix3 0 (Fin.ofNat 512 (128 * D.pos p + j.val)) i)
    = A.qk b (row d (n + p) j) ⟨1024 + i.val, by omega⟩
  v : ∀ p < 4, ∀ (j : Fin 128) (i : Fin 1024), D.v (ix3 0 (Fin.ofNat 512 (128 * D.pos p + j.val)) i)
    = A.pv b (row d (n + p) j) ⟨9216 + i.val, by omega⟩
  a : ∀ p < 4, ∀ (j l : Fin 128), D.a (ix3 0 (Fin.ofNat 512 (128 * D.pos p + j.val)) l) = A.am b (row d (n + p) j) l
  r : ∀ p < 4, ∀ (j l : Fin 128), D.r (ix3 0 l (Fin.ofNat 512 (128 * D.pos p + j.val))) = A.rr b l (row d (n + p) j)
  keep : ∀ p < 4, ∀ h : Fin 4, D.kp (4 * d.val + h.val) (D.pos p)
    = A.kp b ⟨chunk d (n + p) % 32, by omega⟩ ⟨4 * d.val + h.val, by omega⟩
  bc : ∀ (l : Fin 128) (c : Fin 512), D.bc (ix2 l c) = er (if l.val / 24 = c.val / 128 then 1 else 0)
  mask : ∀ j s : Fin 128, D.mask (ix2 j s) = if (if d.val = 0 then s.val ≤ j.val else j.val ≤ s.val) then 1#1 else 0#1

namespace Covers

variable {D : Dir} {A : Arrays} {d : Fin 2} {b : Fin 4} {n : ℕ} (V : Covers D A d b n) (h : Fin 4)

theorem col (d : Fin 2) (h : Fin 4) (i : Fin 256) :
    Fin.ofNat 1024 (256 * ((4 * d.val + h.val) % 4) + i.val) = ⟨256 * h.val + i.val, by omega⟩ :=
  ofNat_eq _ _ (by show 256 * ((4 * d.val + h.val) % 4) + i.val = 256 * h.val + i.val; omega)

theorem lane_eq (t : ℕ) (ht : t < 16) (d : Fin 2) (h : Fin 4) (hl : 8 * t + (4 * d.val + h.val) < 128) :
    (⟨8 * t + (4 * d.val + h.val), hl⟩ : Fin 128) = lane8 t d h :=
  Fin.ext (by show 8 * t + (4 * d.val + h.val) = (8 * t + (4 * d.val + h.val)) % 128; omega)

include V

theorem weight_at (p : ℕ) (hp : p < 4) (j : Fin 128) (c : Fin 512) (g : ℕ) (hg : 1 ≤ g) (hc : c.val / 128 = g) :
    D.e (4 * d.val + h.val) (D.pos p) (ix2 j c) = A.weight d b h g (n + p) j := by
  refine (emat_rest ⟨4 * d.val + h.val, by omega⟩ D.bc V.bc _ _ j c g hg hc).trans (Finset.sum_congr rfl fun t _ => ?_)
  exact V.a p hp j _

theorem reads : Reads D (4 * d.val + h.val) (A.seq d b h) n where
  q p hp j i := by
    refine Eq.trans ?_ (V.q p hp j ⟨256 * h.val + i.val, by omega⟩)
    rw [← col d h i]; rfl
  k p hp j i := by
    refine Eq.trans ?_ (V.k p hp j ⟨256 * h.val + i.val, by omega⟩)
    rw [← col d h i]; rfl
  v p hp j i := by
    refine Eq.trans ?_ (V.v p hp j ⟨256 * h.val + i.val, by omega⟩)
    rw [← col d h i]; rfl
  kp p hp := V.keep p hp h
  dec p hp j s := by
    rw [decay_at, V.mask, Scalar.select_def]
    refine congrArg Ideal.exp2 ?_
    unfold Arrays.logDecay
    by_cases hs : (if d.val = 0 then s.val ≤ j.val else j.val ≤ s.val)
    · rw [if_pos hs, if_pos hs, if_pos (by decide)]
      refine (emat_decay ⟨4 * d.val + h.val, by omega⟩ D.bc V.bc _ _ j s).trans (Finset.sum_congr rfl fun t _ => ?_)
      have e := lane_eq t.val t.isLt d h (by omega)
      show er (D.a (ix3 0 (Fin.ofNat 512 (128 * D.pos p + j.val)) ⟨8 * t.val + (4 * d.val + h.val), _⟩))
        * (_ + er (D.r (ix3 0 ⟨8 * t.val + (4 * d.val + h.val), _⟩ (Fin.ofNat 512 (128 * D.pos p + s.val))))) = _
      rw [e, V.a p hp, V.r p hp]
    · rw [if_neg hs, if_neg hs, if_neg (by decide)]
  iw p hp j l := by
    rw [iw_at]
    exact congrArg Ideal.exp2 (V.weight_at h p hp j _ 1 (by omega) (by show (128 + l.val) / 128 = 1; omega))
  clamp p hp j l := by
    rw [clamp_at]
    exact congrArg Ideal.exp2 (V.weight_at h p hp j _ 2 (by omega) (by show (256 + l.val) / 128 = 2; omega))
  w p hp j l := by
    rw [w_at]
    exact congrArg Ideal.exp2 (V.weight_at h p hp j _ 3 (by omega) (by show (384 + l.val) / 128 = 3; omega))

end Covers

end Cert.KernelIdeal.Value
-- ==== Proof.MlstmTableA.lean ====
/- The mLSTM call's spread table: which of its 65536 entries are one, lanes 0 to 63. -/
module

public import proofs.«01_k».proof.KernelIdeal

@[expose] public section

set_option maxRecDepth 100000

namespace Cert.KernelIdeal.Table

open Cert.KernelIdeal

/-- Lane `l` of the table feeds column block `l / 24` and no other: the word at lane `l`, column `c`. -/
abbrev word (l c : ℕ) : BitVec 32 := if l / 24 = c / 128 then 0x3F800000#32 else 0#32

/-- Eight lanes of the table from lane `8 b` on. -/
abbrev Lanes (b : ℕ) : Prop := ∀ l : Fin 8, ∀ c : Fin 512, lit0t (512 * (8 * b + l.val) + c.val) = word (8 * b + l.val) c.val

theorem lanes0 : Lanes 0 := by decide +kernel
theorem lanes1 : Lanes 1 := by decide +kernel
theorem lanes2 : Lanes 2 := by decide +kernel
theorem lanes3 : Lanes 3 := by decide +kernel
theorem lanes4 : Lanes 4 := by decide +kernel
theorem lanes5 : Lanes 5 := by decide +kernel
theorem lanes6 : Lanes 6 := by decide +kernel
theorem lanes7 : Lanes 7 := by decide +kernel

end Cert.KernelIdeal.Table
-- ==== Proof.MlstmTableB.lean ====
/- The mLSTM call's spread table: which of its 65536 entries are one, lanes 64 to 127. -/
module

public import proofs.«01_k».proof.Proof.MlstmTableA

@[expose] public section

set_option maxRecDepth 100000

namespace Cert.KernelIdeal.Table

open Cert.KernelIdeal

theorem lanes8 : Lanes 8 := by decide +kernel
theorem lanes9 : Lanes 9 := by decide +kernel
theorem lanes10 : Lanes 10 := by decide +kernel
theorem lanes11 : Lanes 11 := by decide +kernel
theorem lanes12 : Lanes 12 := by decide +kernel
theorem lanes13 : Lanes 13 := by decide +kernel
theorem lanes14 : Lanes 14 := by decide +kernel
theorem lanes15 : Lanes 15 := by decide +kernel

end Cert.KernelIdeal.Table
-- ==== Proof.MlstmTable.lean ====
/- The mLSTM call's spread table, whole. -/
module

public import proofs.«01_k».proof.Proof.MlstmTableB

@[expose] public section

namespace Cert.KernelIdeal.Table

open Cert.KernelIdeal

theorem table_of {b : ℕ} (h : Lanes b) (l : Fin 128) (c : Fin 512) (e : l.val / 8 = b) :
    lit0t (512 * l.val + c.val) = word l.val c.val := by
  subst e
  have e := h ⟨l.val % 8, Nat.mod_lt _ (by omega)⟩ c
  rw [show 8 * (l.val / 8) + ((⟨l.val % 8, Nat.mod_lt _ (by omega)⟩ : Fin 8) : ℕ) = l.val from Nat.div_add_mod _ _] at e
  exact e

/-- The whole table. -/
theorem table (l : Fin 128) (c : Fin 512) : lit0t (512 * l.val + c.val) = word l.val c.val := by
  have hl : l.val / 8 < 16 := by have := l.isLt; omega
  rcases (show l.val / 8 = 0 ∨ l.val / 8 = 1 ∨ l.val / 8 = 2 ∨ l.val / 8 = 3 ∨ l.val / 8 = 4 ∨ l.val / 8 = 5 ∨ l.val / 8 = 6
      ∨ l.val / 8 = 7 ∨ l.val / 8 = 8 ∨ l.val / 8 = 9 ∨ l.val / 8 = 10 ∨ l.val / 8 = 11 ∨ l.val / 8 = 12 ∨ l.val / 8 = 13
      ∨ l.val / 8 = 14 ∨ l.val / 8 = 15 by omega) with e | e | e | e | e | e | e | e | e | e | e | e | e | e | e | e
  · exact table_of lanes0 l c e
  · exact table_of lanes1 l c e
  · exact table_of lanes2 l c e
  · exact table_of lanes3 l c e
  · exact table_of lanes4 l c e
  · exact table_of lanes5 l c e
  · exact table_of lanes6 l c e
  · exact table_of lanes7 l c e
  · exact table_of lanes8 l c e
  · exact table_of lanes9 l c e
  · exact table_of lanes10 l c e
  · exact table_of lanes11 l c e
  · exact table_of lanes12 l c e
  · exact table_of lanes13 l c e
  · exact table_of lanes14 l c e
  · exact table_of lanes15 l c e

end Cert.KernelIdeal.Table
-- ==== Proof.MlstmBlocks.lean ====
/- The blocks each grid point of the mLSTM call receives, as rows of the call's arrays. -/
module

public import proofs.«01_k».proof.Proof.MlstmReads
public import proofs.«01_k».proof.Proof.MlstmTable
public import proofs.«01_k».proof.Proof.Gen.KernelIdeal.Value
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen Cert.Mlstm

variable (m : (ℓ : Loc nD τ sig) → Buf (Elt Ideal) ℓ) (c : Dev nD)

abbrev aQK : FVec Ideal S4x4096x2048 .bf16 := m ((c : Thread nD τ).loc main_arg0)
abbrev aPV : FVec Ideal S4x4096x11264 .bf16 := m ((c : Thread nD τ).loc main_arg1)
abbrev aAM : FVec Ideal S4x4096x128 .bf16 := m ((c : Thread nD τ).loc main_arg2)
abbrev aRR : FVec Ideal S4x128x4096 .bf16 := m ((c : Thread nD τ).loc main_arg3)
abbrev aKP : FVec Ideal S4x32x128 .f32 := m ((c : Thread nD τ).loc main_arg4)

/-- The call's arrays. -/
def arrays : Arrays where
  qk b r l := aQK m c (ix3 b r l)
  pv b r l := aPV m c (ix3 b r l)
  am b r l := aAM m c (ix3 b r l)
  rr b l r := aRR m c (ix3 b l r)
  kp b n l := aKP m c (ix3 b n l)

theorem idx : ∀ t : Fin cfg0.N, win0_0.index t = ![0] ∧ win0_1.index t = ![0, 0]
    ∧ win0_2.index t = ![t.val / 8, t.val % 8, 0] ∧ win0_3.index t = ![t.val / 8, t.val % 8, 1]
    ∧ win0_4.index t = ![t.val / 8, t.val % 8, 9] ∧ win0_5.index t = ![t.val / 8, t.val % 8, 0]
    ∧ win0_6.index t = ![t.val / 8, 0, t.val % 8]
    ∧ win0_7.index t = ![t.val / 8, 7 - t.val % 8, 0] ∧ win0_8.index t = ![t.val / 8, 7 - t.val % 8, 1]
    ∧ win0_9.index t = ![t.val / 8, 7 - t.val % 8, 9] ∧ win0_10.index t = ![t.val / 8, 7 - t.val % 8, 0]
    ∧ win0_11.index t = ![t.val / 8, 0, 7 - t.val % 8]
    ∧ win0_12.index t = ![t.val / 8, t.val % 8, 0] ∧ win0_13.index t = ![t.val / 8, 7 - t.val % 8, 0] :=
  (by decide +kernel : ∀ t : Fin grid0.N, _)

theorem coord : ∀ t : Fin cfg0.N, (grid0.coords t 0).val = t.val / 8 ∧ (grid0.coords t 1).val = t.val % 8 :=
  (by decide +kernel : ∀ t : Fin grid0.N, _)

section blocks

variable (t : Fin cfg0.N) (b : Fin 4) (hb : b.val = t.val / 8) (r : Fin 512) (R : Fin 4096)
include hb

section forward
variable (hR : R.val = (t.val % 8) * 512 + r.val)
include hR

theorem blk2 (i : Fin 1024) : iblk m c 2 t (ix3 0 r i) = aQK m c (ix3 b R ⟨i.val, by omega⟩) := by
  blk_point [iblk, V, idx t]

theorem blk3 (i : Fin 1024) : iblk m c 3 t (ix3 0 r i) = aQK m c (ix3 b R ⟨1024 + i.val, by omega⟩) := by
  blk_point [iblk, V, idx t]

theorem blk4 (i : Fin 1024) : iblk m c 4 t (ix3 0 r i) = aPV m c (ix3 b R ⟨9216 + i.val, by omega⟩) := by
  blk_point [iblk, V, idx t]

theorem blk5 (l : Fin 128) : iblk m c 5 t (ix3 0 r l) = aAM m c (ix3 b R l) := by
  blk_point [iblk, V, idx t]

theorem blk6 (l : Fin 128) : iblk m c 6 t (ix3 0 l r) = aRR m c (ix3 b l R) := by
  blk_point [iblk, V, idx t]

end forward

section backward
variable (hR : R.val = (7 - t.val % 8) * 512 + r.val)
include hR

theorem blk7 (i : Fin 1024) : iblk m c 7 t (ix3 0 r i) = aQK m c (ix3 b R ⟨i.val, by omega⟩) := by
  blk_point [iblk, V, idx t]

theorem blk8 (i : Fin 1024) : iblk m c 8 t (ix3 0 r i) = aQK m c (ix3 b R ⟨1024 + i.val, by omega⟩) := by
  blk_point [iblk, V, idx t]

theorem blk9 (i : Fin 1024) : iblk m c 9 t (ix3 0 r i) = aPV m c (ix3 b R ⟨9216 + i.val, by omega⟩) := by
  blk_point [iblk, V, idx t]

theorem blk10 (l : Fin 128) : iblk m c 10 t (ix3 0 r l) = aAM m c (ix3 b R l) := by
  blk_point [iblk, V, idx t]

theorem blk11 (l : Fin 128) : iblk m c 11 t (ix3 0 l r) = aRR m c (ix3 b l R) := by
  blk_point [iblk, V, idx t]

end backward

end blocks

theorem ix3_congr {α : Type} {A B C : ℕ} {x x' : Fin A} {y y' : Fin B} {z z' : Fin C}
    (f : (⟨3, ![A, B, C]⟩ : Shape).Idx → α) (hx : x = x') (hy : y = y') (hz : z = z') : f (ix3 x y z) = f (ix3 x' y' z') := by
  subst hx hy hz; rfl

/-- The decay factors, as the call receives them: eight lanes of each chunk in a row. -/
theorem V0_at (b : Fin 4) (n : Fin 32) (h : Fin 8) (x : Fin 1024) (hx : x.val = (b.val * 32 + n.val) * 8 + h.val) :
    V m c (Pipeline.arrRef spec0 0) (ix1 x) = aKP m c (ix3 b n ⟨h.val, by omega⟩) := by
  entry_read
  pointwise
  have hh := h.isLt
  have hn := n.isLt
  exact ix3_congr _ (Fin.ext (by show x.val / 256 = b.val; omega)) (Fin.ext (by show x.val / 8 % 32 = n.val; omega))
    (Fin.ext (by show x.val % 8 = h.val; omega))

/-- The table that sorts the lanes into the four groups. -/
theorem V1_at (l : Fin 128) (x : Fin 512) :
    V m c (Pipeline.arrRef spec0 1) (ix2 l x) = er (if l.val / 24 = x.val / 128 then 1 else 0) := by
  entry_read
  pointwise
  have e : S128x512.rowMajor (ix2 l x) = ⟨512 * l.val + x.val, by show 512 * l.val + x.val < 65536; omega⟩ := by
    apply Fin.ext
    rw [Shape.rowMajor_val_two]
    show l.val * 512 + x.val = 512 * l.val + x.val
    omega
  rw [e]
  show Ideal.ofBits FTy.f32 (lit0t (512 * l.val + x.val)) = _
  rw [Table.table, Table.word]
  split
  · exact Ideal.ofBits_one_f32
  · exact Ideal.ofBits_zero_f32

theorem blk0 (t : Fin cfg0.N) (x : Fin 1024) : iblk m c 0 t (ix1 x) = V m c (Pipeline.arrRef spec0 0) (ix1 x) := by
  blk_ext [iblk, idx t]

theorem blk1 (t : Fin cfg0.N) (l : Fin 128) (x : Fin 512) :
    iblk m c 1 t (ix2 l x) = er (if l.val / 24 = x.val / 128 then 1 else 0) := by
  refine Eq.trans ?_ (V1_at m c l x)
  blk_ext [iblk, idx t]

theorem mask_fwd : ∀ j s : Fin 128, k0_pay9 (ix2 j s) = if s.val ≤ j.val then 1#1 else 0#1 := by
  intro j s
  have hj := j.isLt
  have hs := s.isLt
  pointwise [k0_pay9]
  word_cmp
  by_cases h : s.val ≤ j.val <;> simp [h]

theorem mask_bwd : ∀ j s : Fin 128, k0_pay10 (ix2 j s) = if j.val ≤ s.val then 1#1 else 0#1 := by
  intro j s
  have hj := j.isLt
  have hs := s.isLt
  pointwise [k0_pay10]
  word_cmp
  by_cases h : j.val ≤ s.val <;> simp [h]

/-- Direction `d` of grid point `t`. -/
def dirAt (t : Fin cfg0.N) (d : Fin 2) : Dir :=
  if d.val = 0 then
    fwd (grid0.coords t) (iblk m c 0 t) (iblk m c 1 t) (iblk m c 2 t) (iblk m c 3 t) (iblk m c 4 t) (iblk m c 5 t) (iblk m c 6 t)
  else
    bwd (grid0.coords t) (iblk m c 0 t) (iblk m c 1 t) (iblk m c 7 t) (iblk m c 8 t) (iblk m c 9 t) (iblk m c 10 t) (iblk m c 11 t)

theorem row_fwd (n p : ℕ) (hn : n < 8) (hp : p < 4) (j : Fin 128) :
    (row 0 (4 * n + p) j).val = n * 512 + (Fin.ofNat 512 (128 * p + j.val)).val := by
  show (128 * (4 * n + p) + j.val) % 4096 = n * 512 + (128 * p + j.val) % 512
  omega

theorem row_bwd (n p : ℕ) (hn : n < 8) (hp : p < 4) (j : Fin 128) :
    (row 1 (4 * n + p) j).val = (7 - n) * 512 + (Fin.ofNat 512 (128 * (3 - p) + j.val)).val := by
  show (128 * (31 - (4 * n + p)) + j.val) % 4096 = (7 - n) * 512 + (128 * (3 - p) + j.val) % 512
  omega

theorem keep_fwd (t : Fin cfg0.N) (b : Fin 4) (hb : b.val = t.val / 8) (p : ℕ) (hp : p < 4) (h : Fin 4) :
    (dirAt m c t 0).kp (4 * 0 + h.val) p
      = aKP m c (ix3 b ⟨(4 * (t.val % 8) + p) % 32, by omega⟩ ⟨4 * 0 + h.val, by omega⟩) := by
  have e : k0_off1 (grid0.coords t) (BitVec.ofNat 32 p) (BitVec.ofNat 32 (4 * 0 + h.val)) 0
      = 256 * (t.val / 8) + 32 * (t.val % 8) + 8 * p + h.val := by
    rw [show 4 * 0 + h.val = h.val by omega]
    refine (congrFun (k0_off1_eq (grid0.coords t) ⟨p, hp⟩ h) 0).trans ?_
    show 256 * (grid0.coords t 0).val + 32 * (grid0.coords t 1).val + 8 * p + h.val = _
    rw [(coord t).1, (coord t).2]
  show iblk m c 0 t (ix1 (Fin.ofNat 1024 (k0_off1 (grid0.coords t) (BitVec.ofNat 32 p) (BitVec.ofNat 32 (4 * 0 + h.val)) 0))) = _
  rw [blk0, e]
  have hh := h.isLt
  have ht : t.val < 32 := lt_of_lt_of_eq t.isLt N_0
  refine V0_at m c b ⟨(4 * (t.val % 8) + p) % 32, by omega⟩ ⟨4 * 0 + h.val, by omega⟩ _ ?_
  show (256 * (t.val / 8) + 32 * (t.val % 8) + 8 * p + h.val) % 1024 = (b.val * 32 + (4 * (t.val % 8) + p) % 32) * 8 + (4 * 0 + h.val)
  omega

theorem keep_bwd (t : Fin cfg0.N) (b : Fin 4) (hb : b.val = t.val / 8) (p : ℕ) (hp : p < 4) (h : Fin 4) :
    (dirAt m c t 1).kp (4 * 1 + h.val) (3 - p)
      = aKP m c (ix3 b ⟨(31 - (4 * (t.val % 8) + p)) % 32, by omega⟩ ⟨4 * 1 + h.val, by omega⟩) := by
  have e : k0_off2 (grid0.coords t) (BitVec.ofNat 32 (3 - p)) (BitVec.ofNat 32 (4 * 1 + h.val)) 0
      = (256 * (t.val / 8) + 8 * (3 - p) + h.val + 228) - 32 * (t.val % 8) := by
    refine (congrFun (k0_off2_eq (grid0.coords t) ⟨3 - p, by omega⟩ h) 0).trans ?_
    show (256 * (grid0.coords t 0).val + 8 * (3 - p) + h.val + 228) - 32 * (grid0.coords t 1).val = _
    rw [(coord t).1, (coord t).2]
  show iblk m c 0 t (ix1 (Fin.ofNat 1024 (k0_off2 (grid0.coords t) (BitVec.ofNat 32 (3 - p)) (BitVec.ofNat 32 (4 * 1 + h.val)) 0))) = _
  rw [blk0, e]
  have hh := h.isLt
  have ht : t.val < 32 := lt_of_lt_of_eq t.isLt N_0
  refine V0_at m c b ⟨(31 - (4 * (t.val % 8) + p)) % 32, by omega⟩ ⟨4 * 1 + h.val, by omega⟩ _ ?_
  show ((256 * (t.val / 8) + 8 * (3 - p) + h.val + 228) - 32 * (t.val % 8)) % 1024
    = (b.val * 32 + (31 - (4 * (t.val % 8) + p)) % 32) * 8 + (4 * 1 + h.val)
  omega

/-- Each direction of each grid point reads its rows of the arrays. -/
theorem covers (t : Fin cfg0.N) (b : Fin 4) (hb : b.val = t.val / 8) (d : Fin 2) :
    Covers (dirAt m c t d) (arrays m c) d b (4 * (t.val % 8)) := by
  have h8 : t.val % 8 < 8 := by omega
  obtain rfl | rfl : d = 0 ∨ d = 1 := by omega
  · exact {
      q := fun p hp j i => blk2 m c t b hb _ _ (row_fwd _ p h8 hp j) i
      k := fun p hp j i => blk3 m c t b hb _ _ (row_fwd _ p h8 hp j) i
      v := fun p hp j i => blk4 m c t b hb _ _ (row_fwd _ p h8 hp j) i
      a := fun p hp j l => blk5 m c t b hb _ _ (row_fwd _ p h8 hp j) l
      r := fun p hp j l => blk6 m c t b hb _ _ (row_fwd _ p h8 hp j) l
      keep := fun p hp h => keep_fwd m c t b hb p hp h
      bc := fun l x => blk1 m c t l x
      mask := fun j s => mask_fwd j s }
  · exact {
      q := fun p hp j i => blk7 m c t b hb _ _ (row_bwd _ p h8 hp j) i
      k := fun p hp j i => blk8 m c t b hb _ _ (row_bwd _ p h8 hp j) i
      v := fun p hp j i => blk9 m c t b hb _ _ (row_bwd _ p h8 hp j) i
      a := fun p hp j l => blk10 m c t b hb _ _ (row_bwd _ p h8 hp j) l
      r := fun p hp j l => blk11 m c t b hb _ _ (row_bwd _ p h8 hp j) l
      keep := fun p hp h => keep_bwd m c t b hb p hp h
      bc := fun l x => blk1 m c t l x
      mask := fun j s => mask_bwd j s }

end Cert.KernelIdeal.Value
-- ==== Proof.MlstmCase.lean ====
/- What a grid point of the mLSTM call leaves in its scratch arrays and output blocks, by the head step. -/
module

public import proofs.«01_k».proof.Proof.MlstmBody

@[expose] public section

set_option maxRecDepth 65536

noncomputable section

open Idealize.ShloMosaic Idealize.ShloMosaic.TcCoe Idealize.SL.Sem

namespace Cert.KernelIdeal.Value

open Cert.KernelIdeal Cert.KernelIdeal.Gen

variable (c : Dev nD) (i : grid0.Coords) (arg2 : Memref sig .tc .smem S1024 .f32) (harg2 : arg2.IsWhole) (arg3 : Memref sig .tc .vmem S128x512 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .bf16) (harg7 : arg7.IsWhole) (arg8 : Memref sig .tc .vmem S1x128x512 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x512x128 .bf16) (harg12 : arg12.IsWhole) (arg13 : Memref sig .tc .vmem S1x128x512 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S8x256x256 .f32) (harg16 : arg16.IsWhole) (arg17 : Memref sig .tc .vmem S8x256x128 .f32) (harg17 : arg17.IsWhole) (x0 : Vec Ideal S1024 .f32) (x1 : Vec Ideal S128x512 .bf16) (x2 : Vec Ideal S1x512x1024 .bf16) (x3 : Vec Ideal S1x512x1024 .bf16) (x4 : Vec Ideal S1x512x1024 .bf16) (x5 : Vec Ideal S1x512x128 .bf16) (x6 : Vec Ideal S1x128x512 .bf16) (x7 : Vec Ideal S1x512x1024 .bf16) (x8 : Vec Ideal S1x512x1024 .bf16) (x9 : Vec Ideal S1x512x1024 .bf16) (x10 : Vec Ideal S1x512x128 .bf16) (x11 : Vec Ideal S1x128x512 .bf16) (xs0 : Vec Ideal S8x256x256 .f32) (xs1 : Vec Ideal S8x256x128 .f32)

/-- The matrix states after a grid point. -/
theorem soutB0 (hc0 : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = stackC fun hd => if hd < 4 then (fwd i x0 x1 x2 x3 x4 x5 x6).ct hd xs0 4 else (bwd i x0 x1 x7 x8 x9 x10 x11).ct hd xs0 4 := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (stackC fun hd => if hd < 4 then (fwd i x0 x1 x2 x3 x4 x5 x6).ct hd xs0 4 else (bwd i x0 x1 x7 x8 x9 x10 x11).ct hd xs0 4) _ [_, _, _, _, _, _, _, _] ⟨?_, ?_, ?_, ?_, ?_, ?_, ?_, ?_, trivial⟩ y
    (View.cover_of_tiled_head _ _ _ rfl y)
  · exact fun x => (congrFun (by rfl) x).trans (stackC_piece (fun hd => if hd < 4 then (fwd i x0 x1 x2 x3 x4 x5 x6).ct hd xs0 4 else (bwd i x0 x1 x7 x8 x9 x10 x11).ct hd xs0 4) 7 inb_S8x256x256_S1x256x256_7_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 6 inb_S8x256x256_S1x256x256_6_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 5 inb_S8x256x256_S1x256x256_5_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 4 inb_S8x256x256_S1x256x256_4_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 3 inb_S8x256x256_S1x256x256_3_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 2 inb_S8x256x256_S1x256x256_2_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 1 inb_S8x256x256_S1x256x256_1_0_0 x)
  · exact fun x => (congrFun (by rfl) x).trans (stackC_piece (fun hd => if hd < 4 then (fwd i x0 x1 x2 x3 x4 x5 x6).ct hd xs0 4 else (bwd i x0 x1 x7 x8 x9 x10 x11).ct hd xs0 4) 0 inb_S8x256x256_S1x256x256_0_0_0 x)

/-- The normalisers after a grid point. -/
theorem soutB1 (hc0 : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = stackN fun hd => if hd < 4 then (fwd i x0 x1 x2 x3 x4 x5 x6).nm hd xs1 4 else (bwd i x0 x1 x7 x8 x9 x10 x11).nm hd xs1 4 := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (stackN fun hd => if hd < 4 then (fwd i x0 x1 x2 x3 x4 x5 x6).nm hd xs1 4 else (bwd i x0 x1 x7 x8 x9 x10 x11).nm hd xs1 4) _ [_, _, _, _, _, _, _, _] ⟨?_, ?_, ?_, ?_, ?_, ?_, ?_, ?_, trivial⟩ y
    (View.cover_of_tiled_head _ _ _ rfl y)
  · exact fun x => (congrFun (by rfl) x).trans (stackN_piece (fun hd => if hd < 4 then (fwd i x0 x1 x2 x3 x4 x5 x6).nm hd xs1 4 else (bwd i x0 x1 x7 x8 x9 x10 x11).nm hd xs1 4) 7 inb_S8x256x128_S1x256x128_7_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 6 inb_S8x256x128_S1x256x128_6_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 5 inb_S8x256x128_S1x256x128_5_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 4 inb_S8x256x128_S1x256x128_4_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 3 inb_S8x256x128_S1x256x128_3_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 2 inb_S8x256x128_S1x256x128_2_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 1 inb_S8x256x128_S1x256x128_1_0_0 x)
  · exact fun x => (congrFun (by rfl) x).trans (stackN_piece (fun hd => if hd < 4 then (fwd i x0 x1 x2 x3 x4 x5 x6).nm hd xs1 4 else (bwd i x0 x1 x7 x8 x9 x10 x11).nm hd xs1 4) 0 inb_S8x256x128_S1x256x128_0_0_0 x)

/-- The matrix states after a grid point that starts a batch entry. -/
theorem soutA0 (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = stackC fun hd => if hd < 4 then (fwd i x0 x1 x2 x3 x4 x5 x6).ct hd (k0_pay5 (F := Ideal)) 4 else (bwd i x0 x1 x7 x8 x9 x10 x11).ct hd (k0_pay5 (F := Ideal)) 4 := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (stackC fun hd => if hd < 4 then (fwd i x0 x1 x2 x3 x4 x5 x6).ct hd (k0_pay5 (F := Ideal)) 4 else (bwd i x0 x1 x7 x8 x9 x10 x11).ct hd (k0_pay5 (F := Ideal)) 4) _ [_, _, _, _, _, _, _, _] ⟨?_, ?_, ?_, ?_, ?_, ?_, ?_, ?_, trivial⟩ y
    (View.cover_of_tiled_head _ _ _ rfl y)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 7 inb_S8x256x256_S1x256x256_7_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 6 inb_S8x256x256_S1x256x256_6_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 5 inb_S8x256x256_S1x256x256_5_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 4 inb_S8x256x256_S1x256x256_4_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 3 inb_S8x256x256_S1x256x256_3_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 2 inb_S8x256x256_S1x256x256_2_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 1 inb_S8x256x256_S1x256x256_1_0_0 x)
  · exact fun x => (congrFun (by rfl) x).trans (stackC_piece (fun hd => if hd < 4 then (fwd i x0 x1 x2 x3 x4 x5 x6).ct hd (k0_pay5 (F := Ideal)) 4 else (bwd i x0 x1 x7 x8 x9 x10 x11).ct hd (k0_pay5 (F := Ideal)) 4) 0 inb_S8x256x256_S1x256x256_0_0_0 x)

/-- The normalisers after a grid point that starts a batch entry. -/
theorem soutA1 (hc0 : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = stackN fun hd => if hd < 4 then (fwd i x0 x1 x2 x3 x4 x5 x6).nm hd (k0_pay6 (F := Ideal)) 4 else (bwd i x0 x1 x7 x8 x9 x10 x11).nm hd (k0_pay6 (F := Ideal)) 4 := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (stackN fun hd => if hd < 4 then (fwd i x0 x1 x2 x3 x4 x5 x6).nm hd (k0_pay6 (F := Ideal)) 4 else (bwd i x0 x1 x7 x8 x9 x10 x11).nm hd (k0_pay6 (F := Ideal)) 4) _ [_, _, _, _, _, _, _, _] ⟨?_, ?_, ?_, ?_, ?_, ?_, ?_, ?_, trivial⟩ y
    (View.cover_of_tiled_head _ _ _ rfl y)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 7 inb_S8x256x128_S1x256x128_7_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 6 inb_S8x256x128_S1x256x128_6_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 5 inb_S8x256x128_S1x256x128_5_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 4 inb_S8x256x128_S1x256x128_4_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 3 inb_S8x256x128_S1x256x128_3_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 2 inb_S8x256x128_S1x256x128_2_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 1 inb_S8x256x128_S1x256x128_1_0_0 x)
  · exact fun x => (congrFun (by rfl) x).trans (stackN_piece (fun hd => if hd < 4 then (fwd i x0 x1 x2 x3 x4 x5 x6).nm hd (k0_pay6 (F := Ideal)) 4 else (bwd i x0 x1 x7 x8 x9 x10 x11).nm hd (k0_pay6 (F := Ideal)) 4) 0 inb_S8x256x128_S1x256x128_0_0_0 x)

/-- The forward outputs of a grid point. -/
theorem outB12 (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = tileO (fun p h => (fwd i x0 x1 x2 x3 x4 x5 x6).out h xs0 xs1 p) := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (tileO (fun p h => (fwd i x0 x1 x2 x3 x4 x5 x6).out h xs0 xs1 p)) [] [_, _, _, _, _, _, _, _, _, _, _, _, _, _, _, _] ?_ y (View.cover_of_tiled_head _ _ _ rfl y)
  refine ⟨?_, ?_, ?_, ?_, ?_, ?_, ?_, ?_, ?_, ?_, ?_, ?_, ?_, ?_, ?_, ?_, trivial⟩
  · exact fun x => (congrFun (by rfl) x).trans (tileO_piece (fun p h => (fwd i x0 x1 x2 x3 x4 x5 x6).out h xs0 xs1 p) 384 768 inb_S1x512x1024_S1x128x256_0_384_768 3 3 rfl rfl x)
  · exact fun x => (congrFun (by rfl) x).trans (tileO_piece (fun p h => (fwd i x0 x1 x2 x3 x4 x5 x6).out h xs0 xs1 p) 384 512 inb_S1x512x1024_S1x128x256_0_384_512 3 2 rfl rfl x)
  · exact fun x => (congrFun (by rfl) x).trans (tileO_piece (fun p h => (fwd i x0 x1 x2 x3 x4 x5 x6).out h xs0 xs1 p) 384 256 inb_S1x512x1024_S1x128x256_0_384_256 3 1 rfl rfl x)
  · exact fun x => (congrFun (by rfl) x).trans (tileO_piece (fun p h => (fwd i x0 x1 x2 x3 x4 x5 x6).out h xs0 xs1 p) 384 0 inb_S1x512x1024_S1x128x256_0_384_0 3 0 rfl rfl x)
  · exact fun x => (congrFun (by rfl) x).trans (tileO_piece (fun p h => (fwd i x0 x1 x2 x3 x4 x5 x6).out h xs0 xs1 p) 256 768 inb_S1x512x1024_S1x128x256_0_256_768 2 3 rfl rfl x)
  · exact fun x => (congrFun (by rfl) x).trans (tileO_piece (fun p h => (fwd i x0 x1 x2 x3 x4 x5 x6).out h xs0 xs1 p) 256 512 inb_S1x512x1024_S1x128x256_0_256_512 2 2 rfl rfl x)
  · exact fun x => (congrFun (by rfl) x).trans (tileO_piece (fun p h => (fwd i x0 x1 x2 x3 x4 x5 x6).out h xs0 xs1 p) 256 256 inb_S1x512x1024_S1x128x256_0_256_256 2 1 rfl rfl x)
  · exact fun x => (congrFun (by rfl) x).trans (tileO_piece (fun p h => (fwd i x0 x1 x2 x3 x4 x5 x6).out h xs0 xs1 p) 256 0 inb_S1x512x1024_S1x128x256_0_256_0 2 0 rfl rfl x)
  · exact fun x => (congrFun (by rfl) x).trans (tileO_piece (fun p h => (fwd i x0 x1 x2 x3 x4 x5 x6).out h xs0 xs1 p) 128 768 inb_S1x512x1024_S1x128x256_0_128_768 1 3 rfl rfl x)
  · exact fun x => (congrFun (by rfl) x).trans (tileO_piece (fun p h => (fwd i x0 x1 x2 x3 x4 x5 x6).out h xs0 xs1 p) 128 512 inb_S1x512x1024_S1x128x256_0_128_512 1 2 rfl rfl x)
  · exact fun x => (congrFun (by rfl) x).trans (tileO_piece (fun p h => (fwd i x0 x1 x2 x3 x4 x5 x6).out h xs0 xs1 p) 128 256 inb_S1x512x1024_S1x128x256_0_128_256 1 1 rfl rfl x)
  · exact fun x => (congrFun (by rfl) x).trans (tileO_piece (fun p h => (fwd i x0 x1 x2 x3 x4 x5 x6).out h xs0 xs1 p) 128 0 inb_S1x512x1024_S1x128x256_0_128_0 1 0 rfl rfl x)
  · exact fun x => (congrFun (by rfl) x).trans (tileO_piece (fun p h => (fwd i x0 x1 x2 x3 x4 x5 x6).out h xs0 xs1 p) 0 768 inb_S1x512x1024_S1x128x256_0_0_768 0 3 rfl rfl x)
  · exact fun x => (congrFun (by rfl) x).trans (tileO_piece (fun p h => (fwd i x0 x1 x2 x3 x4 x5 x6).out h xs0 xs1 p) 0 512 inb_S1x512x1024_S1x128x256_0_0_512 0 2 rfl rfl x)
  · exact fun x => (congrFun (by rfl) x).trans (tileO_piece (fun p h => (fwd i x0 x1 x2 x3 x4 x5 x6).out h xs0 xs1 p) 0 256 inb_S1x512x1024_S1x128x256_0_0_256 0 1 rfl rfl x)
  · exact fun x => (congrFun (by rfl) x).trans (tileO_piece (fun p h => (fwd i x0 x1 x2 x3 x4 x5 x6).out h xs0 xs1 p) 0 0 inb_S1x512x1024_S1x128x256_0_0_0 0 0 rfl rfl x)

/-- The backward outputs of a grid point. -/
theorem outB13 (hc0 : ¬cond0_0 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1
      = tileO (fun p h => (bwd i x0 x1 x7 x8 x9 x10 x11).out (4 + h) xs0 xs1 (3 - p)) := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (tileO (fun p h => (bwd i x0 x1 x7 x8 x9 x10 x11).out (4 + h) xs0 xs1 (3 - p))) [] [_, _, _, _, _, _, _, _, _, _, _, _, _, _, _, _] ?_ y (View.cover_of_tiled_head _ _ _ rfl y)
  refine ⟨?_, ?_, ?_, ?_, ?_, ?_, ?_, ?_, ?_, ?_, ?_, ?_, ?_, ?_, ?_, ?_, trivial⟩
  · exact fun x => (congrFun (by rfl) x).trans (tileO_piece (fun p h => (bwd i x0 x1 x7 x8 x9 x10 x11).out (4 + h) xs0 xs1 (3 - p)) 0 768 inb_S1x512x1024_S1x128x256_0_0_768 0 3 rfl rfl x)
  · exact fun x => (congrFun (by rfl) x).trans (tileO_piece (fun p h => (bwd i x0 x1 x7 x8 x9 x10 x11).out (4 + h) xs0 xs1 (3 - p)) 0 512 inb_S1x512x1024_S1x128x256_0_0_512 0 2 rfl rfl x)
  · exact fun x => (congrFun (by rfl) x).trans (tileO_piece (fun p h => (bwd i x0 x1 x7 x8 x9 x10 x11).out (4 + h) xs0 xs1 (3 - p)) 0 256 inb_S1x512x1024_S1x128x256_0_0_256 0 1 rfl rfl x)
  · exact fun x => (congrFun (by rfl) x).trans (tileO_piece (fun p h => (bwd i x0 x1 x7 x8 x9 x10 x11).out (4 + h) xs0 xs1 (3 - p)) 0 0 inb_S1x512x1024_S1x128x256_0_0_0 0 0 rfl rfl x)
  · exact fun x => (congrFun (by rfl) x).trans (tileO_piece (fun p h => (bwd i x0 x1 x7 x8 x9 x10 x11).out (4 + h) xs0 xs1 (3 - p)) 128 768 inb_S1x512x1024_S1x128x256_0_128_768 1 3 rfl rfl x)
  · exact fun x => (congrFun (by rfl) x).trans (tileO_piece (fun p h => (bwd i x0 x1 x7 x8 x9 x10 x11).out (4 + h) xs0 xs1 (3 - p)) 128 512 inb_S1x512x1024_S1x128x256_0_128_512 1 2 rfl rfl x)
  · exact fun x => (congrFun (by rfl) x).trans (tileO_piece (fun p h => (bwd i x0 x1 x7 x8 x9 x10 x11).out (4 + h) xs0 xs1 (3 - p)) 128 256 inb_S1x512x1024_S1x128x256_0_128_256 1 1 rfl rfl x)
  · exact fun x => (congrFun (by rfl) x).trans (tileO_piece (fun p h => (bwd i x0 x1 x7 x8 x9 x10 x11).out (4 + h) xs0 xs1 (3 - p)) 128 0 inb_S1x512x1024_S1x128x256_0_128_0 1 0 rfl rfl x)
  · exact fun x => (congrFun (by rfl) x).trans (tileO_piece (fun p h => (bwd i x0 x1 x7 x8 x9 x10 x11).out (4 + h) xs0 xs1 (3 - p)) 256 768 inb_S1x512x1024_S1x128x256_0_256_768 2 3 rfl rfl x)
  · exact fun x => (congrFun (by rfl) x).trans (tileO_piece (fun p h => (bwd i x0 x1 x7 x8 x9 x10 x11).out (4 + h) xs0 xs1 (3 - p)) 256 512 inb_S1x512x1024_S1x128x256_0_256_512 2 2 rfl rfl x)
  · exact fun x => (congrFun (by rfl) x).trans (tileO_piece (fun p h => (bwd i x0 x1 x7 x8 x9 x10 x11).out (4 + h) xs0 xs1 (3 - p)) 256 256 inb_S1x512x1024_S1x128x256_0_256_256 2 1 rfl rfl x)
  · exact fun x => (congrFun (by rfl) x).trans (tileO_piece (fun p h => (bwd i x0 x1 x7 x8 x9 x10 x11).out (4 + h) xs0 xs1 (3 - p)) 256 0 inb_S1x512x1024_S1x128x256_0_256_0 2 0 rfl rfl x)
  · exact fun x => (congrFun (by rfl) x).trans (tileO_piece (fun p h => (bwd i x0 x1 x7 x8 x9 x10 x11).out (4 + h) xs0 xs1 (3 - p)) 384 768 inb_S1x512x1024_S1x128x256_0_384_768 3 3 rfl rfl x)
  · exact fun x => (congrFun (by rfl) x).trans (tileO_piece (fun p h => (bwd i x0 x1 x7 x8 x9 x10 x11).out (4 + h) xs0 xs1 (3 - p)) 384 512 inb_S1x512x1024_S1x128x256_0_384_512 3 2 rfl rfl x)
  · exact fun x => (congrFun (by rfl) x).trans (tileO_piece (fun p h => (bwd i x0 x1 x7 x8 x9 x10 x11).out (4 + h) xs0 xs1 (3 - p)) 384 256 inb_S1x512x1024_S1x128x256_0_384_256 3 1 rfl rfl x)
  · exact fun x => (congrFun (by rfl) x).trans (tileO_piece (fun p h => (bwd i x0 x1 x7 x8 x9 x10 x11).out (4 + h) xs0 xs1 (3 - p)) 384 0 inb_S1x512x1024_S1x128x256_0_384_0 3 0 rfl rfl x)

/-- The forward outputs of a grid point that starts a batch entry. -/
theorem outA12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = tileO (fun p h => (fwd i x0 x1 x2 x3 x4 x5 x6).out h (k0_pay5 (F := Ideal)) (k0_pay6 (F := Ideal)) p) := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (tileO (fun p h => (fwd i x0 x1 x2 x3 x4 x5 x6).out h (k0_pay5 (F := Ideal)) (k0_pay6 (F := Ideal)) p)) [] [_, _, _, _, _, _, _, _, _, _, _, _, _, _, _, _] ?_ y (View.cover_of_tiled_head _ _ _ rfl y)
  refine ⟨?_, ?_, ?_, ?_, ?_, ?_, ?_, ?_, ?_, ?_, ?_, ?_, ?_, ?_, ?_, ?_, trivial⟩
  · exact fun x => (congrFun (by rfl) x).trans (tileO_piece (fun p h => (fwd i x0 x1 x2 x3 x4 x5 x6).out h (k0_pay5 (F := Ideal)) (k0_pay6 (F := Ideal)) p) 384 768 inb_S1x512x1024_S1x128x256_0_384_768 3 3 rfl rfl x)
  · exact fun x => (congrFun (by rfl) x).trans (tileO_piece (fun p h => (fwd i x0 x1 x2 x3 x4 x5 x6).out h (k0_pay5 (F := Ideal)) (k0_pay6 (F := Ideal)) p) 384 512 inb_S1x512x1024_S1x128x256_0_384_512 3 2 rfl rfl x)
  · exact fun x => (congrFun (by rfl) x).trans (tileO_piece (fun p h => (fwd i x0 x1 x2 x3 x4 x5 x6).out h (k0_pay5 (F := Ideal)) (k0_pay6 (F := Ideal)) p) 384 256 inb_S1x512x1024_S1x128x256_0_384_256 3 1 rfl rfl x)
  · exact fun x => (congrFun (by rfl) x).trans (tileO_piece (fun p h => (fwd i x0 x1 x2 x3 x4 x5 x6).out h (k0_pay5 (F := Ideal)) (k0_pay6 (F := Ideal)) p) 384 0 inb_S1x512x1024_S1x128x256_0_384_0 3 0 rfl rfl x)
  · exact fun x => (congrFun (by rfl) x).trans (tileO_piece (fun p h => (fwd i x0 x1 x2 x3 x4 x5 x6).out h (k0_pay5 (F := Ideal)) (k0_pay6 (F := Ideal)) p) 256 768 inb_S1x512x1024_S1x128x256_0_256_768 2 3 rfl rfl x)
  · exact fun x => (congrFun (by rfl) x).trans (tileO_piece (fun p h => (fwd i x0 x1 x2 x3 x4 x5 x6).out h (k0_pay5 (F := Ideal)) (k0_pay6 (F := Ideal)) p) 256 512 inb_S1x512x1024_S1x128x256_0_256_512 2 2 rfl rfl x)
  · exact fun x => (congrFun (by rfl) x).trans (tileO_piece (fun p h => (fwd i x0 x1 x2 x3 x4 x5 x6).out h (k0_pay5 (F := Ideal)) (k0_pay6 (F := Ideal)) p) 256 256 inb_S1x512x1024_S1x128x256_0_256_256 2 1 rfl rfl x)
  · exact fun x => (congrFun (by rfl) x).trans (tileO_piece (fun p h => (fwd i x0 x1 x2 x3 x4 x5 x6).out h (k0_pay5 (F := Ideal)) (k0_pay6 (F := Ideal)) p) 256 0 inb_S1x512x1024_S1x128x256_0_256_0 2 0 rfl rfl x)
  · exact fun x => (congrFun (by rfl) x).trans (tileO_piece (fun p h => (fwd i x0 x1 x2 x3 x4 x5 x6).out h (k0_pay5 (F := Ideal)) (k0_pay6 (F := Ideal)) p) 128 768 inb_S1x512x1024_S1x128x256_0_128_768 1 3 rfl rfl x)
  · exact fun x => (congrFun (by rfl) x).trans (tileO_piece (fun p h => (fwd i x0 x1 x2 x3 x4 x5 x6).out h (k0_pay5 (F := Ideal)) (k0_pay6 (F := Ideal)) p) 128 512 inb_S1x512x1024_S1x128x256_0_128_512 1 2 rfl rfl x)
  · exact fun x => (congrFun (by rfl) x).trans (tileO_piece (fun p h => (fwd i x0 x1 x2 x3 x4 x5 x6).out h (k0_pay5 (F := Ideal)) (k0_pay6 (F := Ideal)) p) 128 256 inb_S1x512x1024_S1x128x256_0_128_256 1 1 rfl rfl x)
  · exact fun x => (congrFun (by rfl) x).trans (tileO_piece (fun p h => (fwd i x0 x1 x2 x3 x4 x5 x6).out h (k0_pay5 (F := Ideal)) (k0_pay6 (F := Ideal)) p) 128 0 inb_S1x512x1024_S1x128x256_0_128_0 1 0 rfl rfl x)
  · exact fun x => (congrFun (by rfl) x).trans (tileO_piece (fun p h => (fwd i x0 x1 x2 x3 x4 x5 x6).out h (k0_pay5 (F := Ideal)) (k0_pay6 (F := Ideal)) p) 0 768 inb_S1x512x1024_S1x128x256_0_0_768 0 3 rfl rfl x)
  · exact fun x => (congrFun (by rfl) x).trans (tileO_piece (fun p h => (fwd i x0 x1 x2 x3 x4 x5 x6).out h (k0_pay5 (F := Ideal)) (k0_pay6 (F := Ideal)) p) 0 512 inb_S1x512x1024_S1x128x256_0_0_512 0 2 rfl rfl x)
  · exact fun x => (congrFun (by rfl) x).trans (tileO_piece (fun p h => (fwd i x0 x1 x2 x3 x4 x5 x6).out h (k0_pay5 (F := Ideal)) (k0_pay6 (F := Ideal)) p) 0 256 inb_S1x512x1024_S1x128x256_0_0_256 0 1 rfl rfl x)
  · exact fun x => (congrFun (by rfl) x).trans (tileO_piece (fun p h => (fwd i x0 x1 x2 x3 x4 x5 x6).out h (k0_pay5 (F := Ideal)) (k0_pay6 (F := Ideal)) p) 0 0 inb_S1x512x1024_S1x128x256_0_0_0 0 0 rfl rfl x)

/-- The backward outputs of a grid point that starts a batch entry. -/
theorem outA13 (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
      = tileO (fun p h => (bwd i x0 x1 x7 x8 x9 x10 x11).out (4 + h) (k0_pay5 (F := Ideal)) (k0_pay6 (F := Ideal)) (3 - p)) := by
  frame_open
  simp (disch := decide) only [↓ View.readCov_skip, View.readCov_cons_toLoadRect, View.readCov_fill]
  frame_out
  simp only [ld_qblk arg4 harg4 x2, ld_qblk arg5 harg5 x3, ld_qblk arg6 harg6 x4, ld_qblk arg9 harg9 x7, ld_qblk arg10 harg10 x8, ld_qblk arg11 harg11 x9, ld_ablk, ld_rblk, ld_cblk, ld_nblk, ld_keep x0]
  funext y
  refine View.canon_append_of_piecesOf (tileO (fun p h => (bwd i x0 x1 x7 x8 x9 x10 x11).out (4 + h) (k0_pay5 (F := Ideal)) (k0_pay6 (F := Ideal)) (3 - p))) [] [_, _, _, _, _, _, _, _, _, _, _, _, _, _, _, _] ?_ y (View.cover_of_tiled_head _ _ _ rfl y)
  refine ⟨?_, ?_, ?_, ?_, ?_, ?_, ?_, ?_, ?_, ?_, ?_, ?_, ?_, ?_, ?_, ?_, trivial⟩
  · exact fun x => (congrFun (by rfl) x).trans (tileO_piece (fun p h => (bwd i x0 x1 x7 x8 x9 x10 x11).out (4 + h) (k0_pay5 (F := Ideal)) (k0_pay6 (F := Ideal)) (3 - p)) 0 768 inb_S1x512x1024_S1x128x256_0_0_768 0 3 rfl rfl x)
  · exact fun x => (congrFun (by rfl) x).trans (tileO_piece (fun p h => (bwd i x0 x1 x7 x8 x9 x10 x11).out (4 + h) (k0_pay5 (F := Ideal)) (k0_pay6 (F := Ideal)) (3 - p)) 0 512 inb_S1x512x1024_S1x128x256_0_0_512 0 2 rfl rfl x)
  · exact fun x => (congrFun (by rfl) x).trans (tileO_piece (fun p h => (bwd i x0 x1 x7 x8 x9 x10 x11).out (4 + h) (k0_pay5 (F := Ideal)) (k0_pay6 (F := Ideal)) (3 - p)) 0 256 inb_S1x512x1024_S1x128x256_0_0_256 0 1 rfl rfl x)
  · exact fun x => (congrFun (by rfl) x).trans (tileO_piece (fun p h => (bwd i x0 x1 x7 x8 x9 x10 x11).out (4 + h) (k0_pay5 (F := Ideal)) (k0_pay6 (F := Ideal)) (3 - p)) 0 0 inb_S1x512x1024_S1x128x256_0_0_0 0 0 rfl rfl x)
  · exact fun x => (congrFun (by rfl) x).trans (tileO_piece (fun p h => (bwd i x0 x1 x7 x8 x9 x10 x11).out (4 + h) (k0_pay5 (F := Ideal)) (k0_pay6 (F := Ideal)) (3 - p)) 128 768 inb_S1x512x1024_S1x128x256_0_128_768 1 3 rfl rfl x)
  · exact fun x => (congrFun (by rfl) x).trans (tileO_piece (fun p h => (bwd i x0 x1 x7 x8 x9 x10 x11).out (4 + h) (k0_pay5 (F := Ideal)) (k0_pay6 (F := Ideal)) (3 - p)) 128 512 inb_S1x512x1024_S1x128x256_0_128_512 1 2 rfl rfl x)
  · exact fun x => (congrFun (by rfl) x).trans (tileO_piece (fun p h => (bwd i x0 x1 x7 x8 x9 x10 x11).out (4 + h) (k0_pay5 (F := Ideal)) (k0_pay6 (F := Ideal)) (3 - p)) 128 256 inb_S1x512x1024_S1x128x256_0_128_256 1 1 rfl rfl x)
  · exact fun x => (congrFun (by rfl) x).trans (tileO_piece (fun p h => (bwd i x0 x1 x7 x8 x9 x10 x11).out (4 + h) (k0_pay5 (F := Ideal)) (k0_pay6 (F := Ideal)) (3 - p)) 128 0 inb_S1x512x1024_S1x128x256_0_128_0 1 0 rfl rfl x)
  · exact fun x => (congrFun (by rfl) x).trans (tileO_piece (fun p h => (bwd i x0 x1 x7 x8 x9 x10 x11).out (4 + h) (k0_pay5 (F := Ideal)) (k0_pay6 (F := Ideal)) (3 - p)) 256 768 inb_S1x512x1024_S1x128x256_0_256_768 2 3 rfl rfl x)
  · exact fun x => (congrFun (by rfl) x).trans (tileO_piece (fun p h => (bwd i x0 x1 x7 x8 x9 x10 x11).out (4 + h) (k0_pay5 (F := Ideal)) (k0_pay6 (F := Ideal)) (3 - p)) 256 512 inb_S1x512x1024_S1x128x256_0_256_512 2 2 rfl rfl x)
  · exact fun x => (congrFun (by rfl) x).trans (tileO_piece (fun p h => (bwd i x0 x1 x7 x8 x9 x10 x11).out (4 + h) (k0_pay5 (F := Ideal)) (k0_pay6 (F := Ideal)) (3 - p)) 256 256 inb_S1x512x1024_S1x128x256_0_256_256 2 1 rfl rfl x)
  · exact fun x => (congrFun (by rfl) x).trans (tileO_piece (fun p h => (bwd i x0 x1 x7 x8 x9 x10 x11).out (4 + h) (k0_pay5 (F := Ideal)) (k0_pay6 (F := Ideal)) (3 - p)) 256 0 inb_S1x512x1024_S1x128x256_0_256_0 2 0 rfl rfl x)
  · exact fun x => (congrFun (by rfl) x).trans (tileO_piece (fun p h => (bwd i x0 x1 x7 x8 x9 x10 x11).out (4 + h) (k0_pay5 (F := Ideal)) (k0_pay6 (F := Ideal)) (3 - p)) 384 768 inb_S1x512x1024_S1x128x256_0_384_768 3 3 rfl rfl x)
  · exact fun x => (congrFun (by rfl) x).trans (tileO_piece (fun p h => (bwd i x0 x1 x7 x8 x9 x10 x11).out (4 + h) (k0_pay5 (F := Ideal)) (k0_pay6 (F := Ideal)) (3 - p)) 384 512 inb_S1x512x1024_S1x128x256_0_384_512 3 2 rfl rfl x)
  · exact fun x => (congrFun (by rfl) x).trans (tileO_piece (fun p h => (bwd i x0 x1 x7 x8 x9 x10 x11).out (4 + h) (k0_pay5 (F := Ideal)) (k0_pay6 (F := Ideal)) (3 - p)) 384 256 inb_S1x512x1024_S1x128x256_0_384_256 3 1 rfl rfl x)
  · exact fun x => (congrFun (by rfl) x).trans (tileO_piece (fun p h => (bwd i x0 x1 x7 x8 x9 x10 x11).out (4 + h) (k0_pay5 (F := Ideal)) (k0_pay6 (F := Ideal)) (3 - p)) 384 0 inb_S1x512x1024_S1x128x256_0_384_0 3 0 rfl rfl x)

end Cert.KernelIdeal.Value
-- ==== Proof.MlstmGrid.lean ====
/- The mLSTM call from grid point to grid point: what the scratch arrays hold before and after a point, and the two
   blocks a point writes. -/
module

public import proofs.«01_k».proof.Proof.MlstmBlocks
public import proofs.«01_k».proof.Proof.MlstmCase

@[expose] public section

set_option maxRecDepth 16384

noncomputable section

open Idealize.ShloMosaic Idealize.ShloMosaic.TcCoe Idealize.SL.Sem

namespace Cert.KernelIdeal.Value

open Cert.KernelIdeal Cert.KernelIdeal.Gen Cert.Mlstm

variable (m : (ℓ : Loc nD τ sig) → Buf (Elt Ideal) ℓ) (c : Dev nD)

/-- The states hold what the recurrences of sequence `b` hold before chunk `n`. -/
structure Holds (b : Fin 4) (n : ℕ) (s : Vec Ideal S8x256x256 .f32) (s' : Vec Ideal S8x256x128 .f32) : Prop where
  C : ∀ (d : Fin 2) (h : Fin 4) (i j : Fin 256),
    s (ix3 ⟨4 * d.val + h.val, by omega⟩ i j) = ((arrays m c).seq d b h).C n i j
  N : ∀ (d : Fin 2) (h : Fin 4) (i : Fin 256) (j : Fin 128),
    s' (ix3 ⟨4 * d.val + h.val, by omega⟩ i j) = ((arrays m c).seq d b h).N n i

/-- What grid point `t` makes of the states `s`, `s'`: two output blocks and the states it leaves. -/
structure Made (t : Fin cfg0.N) (s : Vec Ideal S8x256x256 .f32) (s' : Vec Ideal S8x256x128 .f32)
    (x : Vec Ideal S1x512x1024 .bf16 × Vec Ideal S1x512x1024 .bf16 × Vec Ideal S8x256x256 .f32 × Vec Ideal S8x256x128 .f32) : Prop where
  o12 : x.1 = tileO (fun p h => (dirAt m c t 0).out h s s' p)
  o13 : x.2.1 = tileO (fun p h => (dirAt m c t 1).out (4 + h) s s' (3 - p))
  C : x.2.2.1 = stackC fun hd => if hd < 4 then (dirAt m c t 0).ct hd s 4 else (dirAt m c t 1).ct hd s 4
  N : x.2.2.2 = stackN fun hd => if hd < 4 then (dirAt m c t 0).nm hd s' 4 else (dirAt m c t 1).nm hd s' 4

theorem dirAt_zero (t : Fin cfg0.N) : dirAt m c t 0
    = fwd (grid0.coords t) (iblk m c 0 t) (iblk m c 1 t) (iblk m c 2 t) (iblk m c 3 t) (iblk m c 4 t) (iblk m c 5 t) (iblk m c 6 t) :=
  if_pos rfl

theorem dirAt_one (t : Fin cfg0.N) : dirAt m c t 1
    = bwd (grid0.coords t) (iblk m c 0 t) (iblk m c 1 t) (iblk m c 7 t) (iblk m c 8 t) (iblk m c 9 t) (iblk m c 10 t) (iblk m c 11 t) :=
  if_neg (by decide)

theorem made_first (t : Fin cfg0.N) (h0 : t.val % 8 = 0) :
    Made m c t (k0_pay5 (F := Ideal)) (k0_pay6 (F := Ideal)) (outsAt0 m c t.val t.isLt) := by
  rw [outsAt0_A m c t h0]
  refine ⟨?_, ?_, ?_, ?_⟩
  · dsimp only; rw [dirAt_zero, outA12]
  · dsimp only; rw [dirAt_one, outA13]
  · dsimp only; rw [dirAt_zero, dirAt_one, soutA0]
  · dsimp only; rw [dirAt_zero, dirAt_one, soutA1]

theorem made_next (t : Fin cfg0.N) (h0 : ¬t.val % 8 = 0) :
    Made m c t (outsAt0 m c (t.val - 1) (by have := t.isLt; omega)).2.2.1
      (outsAt0 m c (t.val - 1) (by have := t.isLt; omega)).2.2.2 (outsAt0 m c t.val t.isLt) := by
  rw [outsAt0_B m c t h0]
  refine ⟨?_, ?_, ?_, ?_⟩
  · dsimp only; rw [dirAt_zero, outB12]
  · dsimp only; rw [dirAt_one, outB13]
  · dsimp only; rw [dirAt_zero, dirAt_one, soutB0]
  · dsimp only; rw [dirAt_zero, dirAt_one, soutB1]

theorem Made.holds {t : Fin cfg0.N} {b : Fin 4} (hb : b.val = t.val / 8) {s : Vec Ideal S8x256x256 .f32}
    {s' : Vec Ideal S8x256x128 .f32} {x} (M : Made m c t s s' x) (H : Holds m c b (4 * (t.val % 8)) s s') :
    Holds m c b (4 * (t.val % 8) + 4) x.2.2.1 x.2.2.2 where
  C d h i j := by
    have R := ((covers m c t b hb d).reads h).ct (hd := ⟨4 * d.val + h.val, by omega⟩) (H.C d h) i j 4 (by omega)
    rw [M.C, ← R]
    unfold stackC
    obtain rfl | rfl : d = 0 ∨ d = 1 := by omega
    · exact congrFun (if_pos (by show 4 * 0 + h.val < 4; omega)) _
    · exact congrFun (if_neg (by show ¬4 * 1 + h.val < 4; omega)) _
  N d h i j := by
    have R := ((covers m c t b hb d).reads h).nm (hd := ⟨4 * d.val + h.val, by omega⟩) (H.N d h) i j 4 (by omega)
    rw [M.N, ← R]
    unfold stackN
    obtain rfl | rfl : d = 0 ∨ d = 1 := by omega
    · exact congrFun (if_pos (by show 4 * 0 + h.val < 4; omega)) _
    · exact congrFun (if_neg (by show ¬4 * 1 + h.val < 4; omega)) _

theorem holds_zero (b : Fin 4) : Holds m c b 0 (k0_pay5 (F := Ideal)) (k0_pay6 (F := Ideal)) where
  C d h i j := by
    show _ = (0 : EReal)
    pointwise [k0_pay5]
  N d h i j := by
    show _ = (0 : EReal)
    pointwise [k0_pay6]

/-- After grid point `n` the states hold what the recurrences hold after the point's four chunks. -/
theorem holds_after : ∀ (n : ℕ) (hn : n < cfg0.N) (b : Fin 4), b.val = n / 8 →
    Holds m c b (4 * (n % 8) + 4) (outsAt0 m c n hn).2.2.1 (outsAt0 m c n hn).2.2.2
  | n, hn, b, hb => by
    by_cases h0 : n % 8 = 0
    · refine (made_first m c ⟨n, hn⟩ h0).holds m c hb ?_
      show Holds m c b (4 * (n % 8)) _ _
      rw [h0]
      exact holds_zero m c b
    · refine (made_next m c ⟨n, hn⟩ h0).holds m c hb ?_
      have e : 4 * (n % 8) = 4 * ((n - 1) % 8) + 4 := by omega
      show Holds m c b (4 * (n % 8)) _ _
      rw [e]
      exact holds_after (n - 1) (by omega) b (by omega)
  termination_by n => n
  decreasing_by omega

/-- The states a grid point starts from. -/
theorem made (t : Fin cfg0.N) (b : Fin 4) (hb : b.val = t.val / 8) : ∃ s s',
    Holds m c b (4 * (t.val % 8)) s s' ∧ Made m c t s s' (outsAt0 m c t.val t.isLt) := by
  by_cases h0 : t.val % 8 = 0
  · refine ⟨_, _, ?_, made_first m c t h0⟩
    rw [h0]
    exact holds_zero m c b
  · refine ⟨_, _, ?_, made_next m c t h0⟩
    have e : 4 * (t.val % 8) = 4 * ((t.val - 1) % 8) + 4 := by omega
    rw [e]
    exact holds_after m c (t.val - 1) (by have := t.isLt; omega) b (by omega)

theorem block_fwd (t : Fin cfg0.N) (b : Fin 4) (hb : b.val = t.val / 8) (p : Fin 4) (j : Fin 128) (h : Fin 4) (l : Fin 256) :
    (outsAt0 m c t.val t.isLt).1 (ix3 0 ⟨128 * p.val + j.val, by omega⟩ ⟨256 * h.val + l.val, by omega⟩)
      = ((arrays m c).seq 0 b h).out (4 * (t.val % 8) + p.val) j l := by
  obtain ⟨s, s', H, M⟩ := made m c t b hb
  have R := ((covers m c t b hb 0).reads h).out (hd := ⟨4 * 0 + h.val, by omega⟩) (H.C 0 h) (H.N 0 h) p.val p.isLt j l
  rw [M.o12, ← R]
  show (dirAt m c t 0).out ((256 * h.val + l.val) / 256) s s' ((128 * p.val + j.val) / 128)
    (ix3 0 (Fin.ofNat 128 ((128 * p.val + j.val) % 128)) (Fin.ofNat 256 ((256 * h.val + l.val) % 256))) = _
  rw [show (256 * h.val + l.val) / 256 = 4 * 0 + h.val by omega, show (128 * p.val + j.val) / 128 = p.val by omega,
    ofNat_eq _ j (by omega), ofNat_eq _ l (by omega)]

theorem block_bwd (t : Fin cfg0.N) (b : Fin 4) (hb : b.val = t.val / 8) (p : Fin 4) (j : Fin 128) (h : Fin 4) (l : Fin 256) :
    (outsAt0 m c t.val t.isLt).2.1 (ix3 0 ⟨128 * p.val + j.val, by omega⟩ ⟨256 * h.val + l.val, by omega⟩)
      = ((arrays m c).seq 1 b h).out (4 * (t.val % 8) + (3 - p.val)) j l := by
  obtain ⟨s, s', H, M⟩ := made m c t b hb
  have R := ((covers m c t b hb 1).reads h).out (hd := ⟨4 * 1 + h.val, by omega⟩) (H.C 1 h) (H.N 1 h) (3 - p.val) (by omega) j l
  rw [M.o13, ← R]
  show (dirAt m c t 1).out (4 + (256 * h.val + l.val) / 256) s s' (3 - (128 * p.val + j.val) / 128)
    (ix3 0 (Fin.ofNat 128 ((128 * p.val + j.val) % 128)) (Fin.ofNat 256 ((256 * h.val + l.val) % 256))) = _
  rw [show 4 + (256 * h.val + l.val) / 256 = 4 * 1 + h.val by omega, show (128 * p.val + j.val) / 128 = p.val by omega,
    ofNat_eq _ j (by omega), ofNat_eq _ l (by omega)]

end Cert.KernelIdeal.Value

end
-- ==== Proof.MlstmRefIn.lean ====
/- What the plain recurrence reads, chunk by chunk: each array it scans over, entry by entry, as an entry of an argument. -/
module

public import proofs.«01_k».proof.Proof.Gen.ReferenceIdeal.Step
public import proofs.«01_k».proof.Proof.MlstmModel
public import Idealize.ShloMosaic.Lib.ValueIdxRank6

@[expose] public section

noncomputable section

open Idealize.ShloMosaic Idealize.ShloMosaic.TcCoe

namespace Cert.Mlstm

theorem row_val (d : Fin 2) (n : Fin 32) (j : Fin 128) :
    (row d n.val j).val = (if d.val = 0 then n.val else 31 - n.val) * 128 + j.val := by
  unfold row chunk
  show (128 * (if d.val = 0 then n.val else 31 - n.val) + j.val) % 4096 = _
  split <;> omega

theorem row_one (n : Fin 32) (j : Fin 128) : row 1 n.val j = row 0 n.rev.val j := by
  apply Fin.ext
  rw [row_val, row_val]
  show (31 - n.val) * 128 + j.val = n.rev.val * 128 + j.val
  rw [Fin.val_rev]
  omega

theorem lane8_val (t : Fin 16) (d : Fin 2) (h : Fin 4) : (lane8 t.val d h).val = 8 * t.val + (4 * d.val + h.val) := by
  unfold lane8
  show (8 * t.val + (4 * d.val + h.val)) % 128 = _
  omega

theorem two (d : Fin 2) : d = 0 ∨ d = 1 := by omega

end Cert.Mlstm

namespace Cert.ReferenceIdeal.Step

open Cert.Mlstm Cert.ReferenceIdeal

variable (a0 : FVec Ideal S4x4096x2048 .bf16) (a1 : FVec Ideal S4x4096x11264 .bf16)
  (a2 : FVec Ideal S4x4096x128 .bf16) (a3 : FVec Ideal S4x128x4096 .bf16) (a4 : FVec Ideal S4x32x128 .f32)

/-- The queries, keys and values by chunk and head. -/
theorem v3_at (n : Fin 32) (b h : Fin 4) (j : Fin 128) (i : Fin 256) :
    A_main_v3 (F := Ideal) a0 a1 a2 a3 a4 (ix5 n b h j i) = er (a0 (ix3 b (row 0 n.val j) ⟨256 * h.val + i.val, by omega⟩)) := by
  pointwise [A_main_v3, A_main_v2, A_main_v1, A_main_v0]
  exact congrArg₂ (fun x y => a0 (ix3 b x y)) (Fin.ext (row_val 0 n j).symm)
    (Fin.ext (congrArg (· + i.val) (Nat.mul_comm _ _)))

theorem v11_at (n : Fin 32) (b h : Fin 4) (j : Fin 128) (i : Fin 256) :
    A_main_v11 (F := Ideal) a0 a1 a2 a3 a4 (ix5 n b h j i)
      = er (a0 (ix3 b (row 0 n.val j) ⟨1024 + (256 * h.val + i.val), by omega⟩)) := by
  pointwise [A_main_v11, A_main_v10, A_main_v9, A_main_v8]
  exact congrArg₂ (fun x y => a0 (ix3 b x y)) (Fin.ext (row_val 0 n j).symm)
    (Fin.ext (congrArg (fun x => 1024 + (x + i.val)) (Nat.mul_comm _ _)))

theorem v19_at (n : Fin 32) (b h : Fin 4) (j : Fin 128) (i : Fin 256) :
    A_main_v19 (F := Ideal) a0 a1 a2 a3 a4 (ix5 n b h j i)
      = er (a1 (ix3 b (row 0 n.val j) ⟨9216 + (256 * h.val + i.val), by omega⟩)) := by
  pointwise [A_main_v19, A_main_v18, A_main_v17, A_main_v16]
  exact congrArg₂ (fun x y => a1 (ix3 b x y)) (Fin.ext (row_val 0 n j).symm)
    (Fin.ext (congrArg (fun x => 9216 + (x + i.val)) (Nat.mul_comm _ _)))

theorem v26_at (n : Fin 32) (d : Fin 2) (b : Fin 4) (j : Fin 128) (t : Fin 16) (h : Fin 4) :
    A_main_v26 (F := Ideal) a0 a1 a2 a3 a4 (ix6 n d b j t h) = er (a2 (ix3 b (row 0 n.val j) (lane8 t.val d h))) := by
  pointwise [A_main_v26, A_main_v25, A_main_v24]
  refine congrArg₂ (fun x y => a2 (ix3 b x y)) (Fin.ext (row_val 0 n j).symm) (Fin.ext ?_)
  rw [lane8_val]
  show _ = _
  ring

theorem v29_at (n : Fin 32) (d : Fin 2) (b : Fin 4) (t : Fin 16) (h : Fin 4) (s : Fin 128) :
    A_main_v29 (F := Ideal) a0 a1 a2 a3 a4 (ix6 n d b t h s) = er (a3 (ix3 b (lane8 t.val d h) (row 0 n.val s))) := by
  pointwise [A_main_v29, A_main_v28, A_main_v27]
  refine congrArg₂ (fun x y => a3 (ix3 b y x)) (Fin.ext (row_val 0 n s).symm) (Fin.ext ?_)
  rw [lane8_val]
  show _ = _
  ring

theorem v32_at (n : Fin 32) (d : Fin 2) (b h : Fin 4) :
    A_main_v32 (F := Ideal) a0 a1 a2 a3 a4 (ix4 n d b h) = er (a4 (ix3 b n ⟨4 * d.val + h.val, by omega⟩)) := by
  pointwise [A_main_v32, A_main_v31, A_main_v30]
  exact congrArg (fun y => a4 (ix3 b n y)) (Fin.ext (congrArg (· + h.val) (Nat.mul_comm _ _)))

/-- The same in the order in which each direction meets its chunks. -/
theorem v7_at (n : Fin 32) (d : Fin 2) (b h : Fin 4) (j : Fin 128) (i : Fin 256) :
    A_main_v7 (F := Ideal) a0 a1 a2 a3 a4 (ix6 n d b h j i)
      = er (a0 (ix3 b (row d n.val j) ⟨256 * h.val + i.val, by omega⟩)) := by
  pointwise [A_main_v7, A_main_v6, A_main_v5, A_main_v4, v3_at]
  obtain rfl | rfl := two d
  · rfl
  · rw [row_one]; rfl

theorem v15_at (n : Fin 32) (d : Fin 2) (b h : Fin 4) (j : Fin 128) (i : Fin 256) :
    A_main_v15 (F := Ideal) a0 a1 a2 a3 a4 (ix6 n d b h j i)
      = er (a0 (ix3 b (row d n.val j) ⟨1024 + (256 * h.val + i.val), by omega⟩)) := by
  pointwise [A_main_v15, A_main_v14, A_main_v13, A_main_v12, v11_at]
  obtain rfl | rfl := two d
  · rfl
  · rw [row_one]; rfl

theorem v23_at (n : Fin 32) (d : Fin 2) (b h : Fin 4) (j : Fin 128) (i : Fin 256) :
    A_main_v23 (F := Ideal) a0 a1 a2 a3 a4 (ix6 n d b h j i)
      = er (a1 (ix3 b (row d n.val j) ⟨9216 + (256 * h.val + i.val), by omega⟩)) := by
  pointwise [A_main_v23, A_main_v22, A_main_v21, A_main_v20, v19_at]
  obtain rfl | rfl := two d
  · rfl
  · rw [row_one]; rfl

theorem v55_at (n : Fin 32) (d : Fin 2) (b : Fin 4) (j : Fin 128) (t : Fin 16) (h : Fin 4) :
    A_main_v55 (F := Ideal) a0 a1 a2 a3 a4 (ix6 n d b j t h) = er (a2 (ix3 b (row d n.val j) (lane8 t.val d h))) := by
  pointwise [A_main_v55, A_main_v54, A_main_v53, A_main_v52, A_main_v51, A_main_v50, A_main_v49, A_main_v48, v26_at]
  obtain rfl | rfl := two d
  · rfl
  · rw [row_one]; rfl

theorem v63_at (n : Fin 32) (d : Fin 2) (b : Fin 4) (t : Fin 16) (h : Fin 4) (s : Fin 128) :
    A_main_v63 (F := Ideal) a0 a1 a2 a3 a4 (ix6 n d b t h s) = er (a3 (ix3 b (lane8 t.val d h) (row d n.val s))) := by
  pointwise [A_main_v63, A_main_v62, A_main_v61, A_main_v60, A_main_v59, A_main_v58, A_main_v57, A_main_v56, v29_at]
  obtain rfl | rfl := two d
  · rfl
  · rw [row_one]; rfl

theorem v71_at (n : Fin 32) (d : Fin 2) (b h : Fin 4) :
    A_main_v71 (F := Ideal) a0 a1 a2 a3 a4 (ix4 n d b h)
      = er (a4 (ix3 b ⟨chunk d n.val % 32, by omega⟩ ⟨4 * d.val + h.val, by omega⟩)) := by
  pointwise [A_main_v71, A_main_v70, A_main_v69, A_main_v68, A_main_v67, A_main_v66, A_main_v65, A_main_v64, v32_at]
  obtain rfl | rfl := two d
  · show er (a4 (ix3 b n ⟨h.val, by omega⟩)) = _
    refine congrArg₂ (fun (x : Fin 32) (y : Fin 128) => er (a4 (ix3 b x y))) (Fin.ext (Nat.mod_eq_of_lt n.isLt).symm) (Fin.ext ?_)
    show h.val = 4 * 0 + h.val
    omega
  · refine congrArg (fun x => a4 (ix3 b x _)) (Fin.ext ?_)
    show n.rev.val = (31 - n.val) % 32
    rw [Fin.val_rev]
    omega

end Cert.ReferenceIdeal.Step

end
-- ==== Proof.MlstmRefStep.lean ====
/- One trip of the plain recurrence, value by value: from a state that holds the matrix states and normalisers before a
   chunk, the outputs of the chunk and the matrix states and normalisers after it. -/
module

public import proofs.«01_k».proof.Proof.MlstmRefIn
public import Idealize.ShloMosaic.Lib.DynamicIndex
public import Idealize.ShloMosaic.Lib.WordCmp

@[expose] public section

noncomputable section

open Idealize.ShloMosaic Idealize.ShloMosaic.TcCoe

namespace Cert.ReferenceIdeal.Step

open Cert.ReferenceIdeal Cert.Mlstm

/-- A chunk's number, as the word that counts the trips. -/
theorem trip_word (j : Fin 32) : (BitVec.ofNat 32 j.val).toInt = (j.val : Int) := by
  revert j; decide +kernel

variable (n : Fin 32) (s : State Ideal)

theorem b6_at (d : Fin 2) (b h : Fin 4) (j : Fin 128) (i : Fin 256) :
    b6 n.val s (ix5 d b h j i) = s.main_v73_0 (ix6 n d b h j i) := by
  have e : b5 n.val s = extractStridedSlice S1x2x4x4x128x256 ![n.val, 0, 0, 0, 0, 0] s.main_v73_0
      ⟨rfl, fun a => by have := n.isLt; fin_cases a <;> simp [S32x2x4x4x128x256, S1x2x4x4x128x256] <;> omega⟩ :=
    Host.dynamicSlice_eq_extractStridedSlice _ _ _ _ _ _ (fun a => by fin_cases a; exact trip_word n; all_goals rfl)
  pointwise [b6, e]

theorem b13_at (d : Fin 2) (b h : Fin 4) (j : Fin 128) (i : Fin 256) :
    b13 n.val s (ix5 d b h j i) = s.main_v73_1 (ix6 n d b h j i) := by
  have e : b12 n.val s = extractStridedSlice S1x2x4x4x128x256 ![n.val, 0, 0, 0, 0, 0] s.main_v73_1
      ⟨rfl, fun a => by have := n.isLt; fin_cases a <;> simp [S32x2x4x4x128x256, S1x2x4x4x128x256] <;> omega⟩ :=
    Host.dynamicSlice_eq_extractStridedSlice _ _ _ _ _ _ (fun a => by fin_cases a; exact trip_word n; all_goals rfl)
  pointwise [b13, e]

theorem b20_at (d : Fin 2) (b h : Fin 4) (j : Fin 128) (i : Fin 256) :
    b20 n.val s (ix5 d b h j i) = s.main_v73_2 (ix6 n d b h j i) := by
  have e : b19 n.val s = extractStridedSlice S1x2x4x4x128x256 ![n.val, 0, 0, 0, 0, 0] s.main_v73_2
      ⟨rfl, fun a => by have := n.isLt; fin_cases a <;> simp [S32x2x4x4x128x256, S1x2x4x4x128x256] <;> omega⟩ :=
    Host.dynamicSlice_eq_extractStridedSlice _ _ _ _ _ _ (fun a => by fin_cases a; exact trip_word n; all_goals rfl)
  pointwise [b20, e]

theorem b27_at (d : Fin 2) (b : Fin 4) (j : Fin 128) (t : Fin 16) (h : Fin 4) :
    b27 n.val s (ix5 d b j t h) = s.main_v73_3 (ix6 n d b j t h) := by
  have e : b26 n.val s = extractStridedSlice S1x2x4x128x16x4 ![n.val, 0, 0, 0, 0, 0] s.main_v73_3
      ⟨rfl, fun a => by have := n.isLt; fin_cases a <;> simp [S32x2x4x128x16x4, S1x2x4x128x16x4] <;> omega⟩ :=
    Host.dynamicSlice_eq_extractStridedSlice _ _ _ _ _ _ (fun a => by fin_cases a; exact trip_word n; all_goals rfl)
  pointwise [b27, e]

theorem b34_at (d : Fin 2) (b : Fin 4) (t : Fin 16) (h : Fin 4) (j : Fin 128) :
    b34 n.val s (ix5 d b t h j) = s.main_v73_4 (ix6 n d b t h j) := by
  have e : b33 n.val s = extractStridedSlice S1x2x4x16x4x128 ![n.val, 0, 0, 0, 0, 0] s.main_v73_4
      ⟨rfl, fun a => by have := n.isLt; fin_cases a <;> simp [S32x2x4x16x4x128, S1x2x4x16x4x128] <;> omega⟩ :=
    Host.dynamicSlice_eq_extractStridedSlice _ _ _ _ _ _ (fun a => by fin_cases a; exact trip_word n; all_goals rfl)
  pointwise [b34, e]

theorem b39_at (d : Fin 2) (b h : Fin 4) :
    b39 n.val s (ix3 d b h) = s.main_v73_5 (ix4 n d b h) := by
  have e : b38 n.val s = extractStridedSlice S1x2x4x4 ![n.val, 0, 0, 0] s.main_v73_5
      ⟨rfl, fun a => by have := n.isLt; fin_cases a <;> simp [S32x2x4x4, S1x2x4x4] <;> omega⟩ :=
    Host.dynamicSlice_eq_extractStridedSlice _ _ _ _ _ _ (fun a => by fin_cases a; exact trip_word n; all_goals rfl)
  pointwise [b39, e]

/-- The word of two. -/
theorem two_word : Ideal.ofBits .f32 0x40000000#32 = ((2 : ℝ) : EReal) := by
  simp [Ideal.ofBits, Ideal.ieee, -EReal.coe_mul]
  norm_num

/-- A power of two. -/
theorem pow_two (x : EReal) : Ideal.pow (Ideal.ofBits .f32 0x40000000#32) x = Ideal.exp2 x := by
  rw [two_word]
  induction x using EReal.rec with
  | bot => show (if (2 : ℝ) < 0 then ⊥ else if (1 : ℝ) < 2 then 0 else if (2 : ℝ) = 1 then 1 else ⊤ : EReal) = 0; norm_num
  | coe r => rfl
  | top => show (if (2 : ℝ) < 0 then ⊥ else if (1 : ℝ) < 2 then ⊤ else if (2 : ℝ) = 1 then 1 else 0 : EReal) = ⊤; norm_num

theorem b46_at (d : Fin 2) (b h : Fin 4) (j : Fin 128) :
    b46 n.val s (ix4 d b h j) = Ideal.exp2 (∑ t : Fin 3, s.main_v73_3 (ix6 n d b j ⟨3 + t.val, by omega⟩ h)) := by
  pointwise [b46, b45, b44, b43, b42, b41, b40, b27_at]
  exact pow_two _

theorem b53_at (d : Fin 2) (b h : Fin 4) (j : Fin 128) :
    b53 n.val s (ix4 d b h j) = Ideal.exp2 (∑ t : Fin 3, s.main_v73_3 (ix6 n d b j ⟨6 + t.val, by omega⟩ h)) := by
  pointwise [b53, b52, b51, b50, b49, b48, b47, b27_at]
  exact pow_two _

theorem b60_at (d : Fin 2) (b h : Fin 4) (j : Fin 128) :
    b60 n.val s (ix4 d b h j) = Ideal.exp2 (∑ t : Fin 3, s.main_v73_3 (ix6 n d b j ⟨9 + t.val, by omega⟩ h)) := by
  pointwise [b60, b59, b58, b57, b56, b55, b54, b27_at]
  exact pow_two _

theorem seen_at (d : Fin 2) (j s : Fin 128) :
    K_main_v45 (F := Ideal) (ix5 d 0 0 j s) = if (if d.val = 0 then s.val ≤ j.val else j.val ≤ s.val) then 1#1 else 0#1 := by
  have hj := j.isLt
  have hs := s.isLt
  pointwise [K_main_v45, K_main_v44, K_main_v43, K_main_v42, K_main_v41, K_main_v40, K_main_v39, K_main_v38]
  obtain rfl | rfl := two d
  · show IntOp.cmpi .sle (BitVec.ofNat 32 s.val) (BitVec.ofNat 32 j.val) = if s.val ≤ j.val then 1#1 else 0#1
    word_cmp
    by_cases h : s.val ≤ j.val <;> simp [h]
  · show IntOp.cmpi .sge (BitVec.ofNat 32 s.val) (BitVec.ofNat 32 j.val) = if j.val ≤ s.val then 1#1 else 0#1
    word_cmp
    by_cases h : j.val ≤ s.val <;> simp [h]

theorem alone_at (t : Fin 16) :
    K_main_v37 (F := Ideal) (ix5 0 0 t 0 0) = if t.val < 3 then 1 else 0 := by
  pointwise [K_main_v37, K_main_v36, K_main_v35, K_main_v34, K_main_v33, K_main_c]
  have e : BitVec.setWidth 32 (IntOp.cmpi .slt (BitVec.ofNat 32 t.val) 3#32) = if t.val < 3 then 1#32 else 0#32 := by
    revert t; decide
  rw [e]
  split
  · show (((1#32 : BitVec 32).toInt : ℝ) : EReal) = 1
    simp
  · show (((0#32 : BitVec 32).toInt : ℝ) : EReal) = 0
    simp

theorem b72_at (d : Fin 2) (b h : Fin 4) (j i : Fin 128) :
    b72 n.val s (ix5 d b h j i) = Ideal.exp2 (if (if d.val = 0 then i.val ≤ j.val else j.val ≤ i.val) then
      ∑ t : Fin 16, s.main_v73_3 (ix6 n d b j t h) * ((if t.val < 3 then 1 else 0) + s.main_v73_4 (ix6 n d b t h i))
      else Ideal.ofBits FTy.f32 4286578688#32) := by
  pointwise [b72, b71, b70, b69, b68, b67, b66, b65, b63, b62, b61, seen_at, alone_at, b27_at, b34_at]
  refine (pow_two _).trans (congrArg Ideal.exp2 ?_)
  rw [Scalar.select_def]
  split <;> simp_all

variable (S : Fin 2 → Fin 4 → Fin 4 → Seq)

/-- The state feeds the trips what the sequences say. -/
structure Fed : Prop where
  q : ∀ (n : Fin 32) d b h j i, s.main_v73_0 (ix6 n d b h j i) = (S d b h).q n.val j i
  k : ∀ (n : Fin 32) d b h j i, s.main_v73_1 (ix6 n d b h j i) = (S d b h).k n.val j i
  v : ∀ (n : Fin 32) d b h j i, s.main_v73_2 (ix6 n d b h j i) = (S d b h).v n.val j i
  keep : ∀ (n : Fin 32) d b h, s.main_v73_5 (ix4 n d b h) = (S d b h).keep n.val
  dec : ∀ (n : Fin 32) d b h j i, b72 n.val s (ix5 d b h j i) = (S d b h).dec n.val j i
  iw : ∀ (n : Fin 32) d b h j, b46 n.val s (ix4 d b h j) = (S d b h).iw n.val j
  clamp : ∀ (n : Fin 32) d b h j, b53 n.val s (ix4 d b h j) = (S d b h).clamp n.val j
  w : ∀ (n : Fin 32) d b h j, b60 n.val s (ix4 d b h j) = (S d b h).w n.val j

variable {s S} (f : Fed s S)
include f

theorem b73_at (d : Fin 2) (b h : Fin 4) (j i : Fin 128) :
    b73 n.val s (ix5 d b h j i) = (S d b h).P n.val j i := by
  pointwise [b73, b64, b6_at, b13_at, f.q, f.k, f.dec]
  rfl

section
variable (hC : ∀ d b h i c, s.main_v73_9 (ix5 d b h i c) = (S d b h).C n.val i c)
  (hN : ∀ d b h i, s.main_v73_10 (ix4 d b h i) = (S d b h).N n.val i)
include hC

theorem b79_at (d : Fin 2) (b h : Fin 4) (j : Fin 128) (c : Fin 256) :
    b79 n.val s (ix5 d b h j c) = (S d b h).num n.val j c := by
  pointwise [b79, b78, b77, b76, b75, b74, b73_at n f, b20_at, b6_at, f.q, f.v, f.iw, hC]
  rfl

theorem b100_at (d : Fin 2) (b h : Fin 4) (i c : Fin 256) :
    b100 n.val s (ix5 d b h i c) = (S d b h).C (n.val + 1) i c := by
  pointwise [b100, b99, b98, b97, b96, b95, b94, b93, b13_at, b20_at, b39_at, f.k, f.v, f.w, f.keep, hC]
  rfl

include hN

theorem b84_at (d : Fin 2) (b h : Fin 4) (j : Fin 128) :
    b84 n.val s (ix4 d b h j) = (S d b h).den n.val j := by
  pointwise [b84, b83, b82, b81, b80, b73_at n f, b6_at, f.q, f.iw, hN]
  rfl

theorem b105_at (d : Fin 2) (b h : Fin 4) (i : Fin 256) :
    b105 n.val s (ix4 d b h i) = (S d b h).N (n.val + 1) i := by
  pointwise [b105, b104, b103, b102, b101, b13_at, b39_at, f.k, f.w, f.keep, hN]
  exact congrArg (_ + ·) (Finset.sum_congr rfl fun _ _ => mul_comm _ _)

theorem b92_at (d : Fin 2) (b h : Fin 4) (j : Fin 128) (c : Fin 256) :
    b92 n.val s (ix5 d b h j c) = (S d b h).out n.val j c := by
  pointwise [b92, b91, b90, b89, b88, b87, b86, b85, b79_at n f hC, b84_at n f hC hN, f.clamp]
  rfl

theorem b112_at (k : Fin 32) (d : Fin 2) (b h : Fin 4) (j : Fin 128) (c : Fin 256) :
    b112 n.val s (ix6 k d b h j c)
      = if k = n then (S d b h).out n.val j c else s.main_v73_11 (ix6 k d b h j c) := by
  have e : b112 n.val s = updateSlice s.main_v73_11 (b106 n.val s) ![n.val, 0, 0, 0, 0, 0]
      ⟨rfl, fun a => by have := n.isLt; fin_cases a <;> simp [S32x2x4x4x128x256, S1x2x4x4x128x256] <;> omega⟩ :=
    Idealize.ShloMosaic.WordCmp.dynamicUpdateSlice_eq_update _ _ _ _ _ _ (fun a => by fin_cases a; exact trip_word n; all_goals rfl)
  pointwise [e, b106, b92_at n f hC hN]
  by_cases hk : k = n
  · subst hk; simp
  · rw [if_neg hk, dif_neg]
    intro h
    exact hk (Fin.ext (by omega))

end

end Cert.ReferenceIdeal.Step
-- ==== Proof.MlstmRefRun.lean ====
module

public import proofs.«01_k».proof.Proof.Gen.ReferenceIdeal.Run
public import proofs.«01_k».proof.Proof.Gen.ReferenceIdeal.Step

/-! # The reference's scan as a state stepped thirty-two times

The generated run of the reference gives its results over the buffers that its loop leaves after 32 trips, and the
generated step gives one trip as a function of the carried state. Here the two are put together: buffers that hold a state
hold, one trip later, the step of that state. -/

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

variable (V0 : Valuation τ sig (Elt F)) (s : State F) (j : ℕ)

/-- The valuation holds the state, the set-up values and the trip's number. -/
structure Holds : Prop where
  f_9 : V0 (Proc.devRef .tc main_v73_9) = s.main_v73_9
  f_10 : V0 (Proc.devRef .tc main_v73_10) = s.main_v73_10
  f_11 : V0 (Proc.devRef .tc main_v73_11) = s.main_v73_11
  f_0 : V0 (Proc.devRef .tc main_v73_0) = s.main_v73_0
  f_1 : V0 (Proc.devRef .tc main_v73_1) = s.main_v73_1
  f_2 : V0 (Proc.devRef .tc main_v73_2) = s.main_v73_2
  f_3 : V0 (Proc.devRef .tc main_v73_3) = s.main_v73_3
  f_4 : V0 (Proc.devRef .tc main_v73_4) = s.main_v73_4
  f_5 : V0 (Proc.devRef .tc main_v73_5) = s.main_v73_5
  n_8 : V0 (Proc.devRef .tc main_v73_8) = constantI S_ 32 (BitVec.ofNat 32 j)
  k_6 : V0 (Proc.devRef .tc main_v73_6) = Cert.ReferenceIdeal.Step.K_main_v37 (F := F)
  k_7 : V0 (Proc.devRef .tc main_v73_7) = Cert.ReferenceIdeal.Step.K_main_v45 (F := F)

variable {V0 s j}

/-! The values one trip uses more than once. -/

theorem queries (h : Holds V0 s j) : res_main_while0b_v85 V0 = b6 j s := by
  unfold res_main_while0b_v85; rw [h.f_0, h.n_8]; rfl

theorem keys (h : Holds V0 s j) : res_main_while0b_v86 V0 = b13 j s := by
  unfold res_main_while0b_v86; rw [h.f_1, h.n_8]; rfl

theorem values (h : Holds V0 s j) : res_main_while0b_v87 V0 = b20 j s := by
  unfold res_main_while0b_v87; rw [h.f_2, h.n_8]; rfl

theorem terms (h : Holds V0 s j) : res_main_while0b_v88 V0 = b27 j s := by
  unfold res_main_while0b_v88; rw [h.f_3, h.n_8]; rfl

theorem kept (h : Holds V0 s j) : res_main_while0b_v90 V0 = b39 j s := by
  unfold res_main_while0b_v90; rw [h.f_5, h.n_8]; rfl

theorem fromState (h : Holds V0 s j) : res_main_while0b_v95 V0 = b46 j s := by
  unfold res_main_while0b_v95; rw [terms h]; rfl

theorem intoState (h : Holds V0 s j) : res_main_while0b_v105 V0 = b60 j s := by
  unfold res_main_while0b_v105; rw [terms h]; rfl

theorem scores (h : Holds V0 s j) : res_main_while0b_v113 V0 = b73 j s := by
  unfold res_main_while0b_v113; rw [terms h, queries h, keys h, h.f_4, h.n_8, h.k_6, h.k_7]; rfl

/-! The carried state after one trip. -/

theorem step_9 (h : Holds V0 s j) : Value.step_main_v73_9 V0 = (step j s).main_v73_9 := by
  unfold Value.step_main_v73_9; rw [kept h, keys h, values h, intoState h, h.f_9]; rfl

theorem step_10 (h : Holds V0 s j) : Value.step_main_v73_10 V0 = (step j s).main_v73_10 := by
  unfold Value.step_main_v73_10; rw [kept h, keys h, intoState h, h.f_10]; rfl

theorem step_11 (h : Holds V0 s j) : Value.step_main_v73_11 V0 = (step j s).main_v73_11 := by
  unfold Value.step_main_v73_11
  rw [scores h, values h, fromState h, queries h, terms h, h.f_9, h.f_10, h.f_11, h.n_8]; rfl

theorem step_8 (h : Holds V0 s j) : Value.step_main_v73_8 V0 = constantI S_ 32 (BitVec.ofNat 32 (j + 1)) := by
  unfold Value.step_main_v73_8
  rw [h.n_8]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_9 := (STEP_main_v73_9 V0).trans (step_9 h)
  f_10 := (STEP_main_v73_10 V0).trans (step_10 h)
  f_11 := (STEP_main_v73_11 V0).trans (step_11 h)
  n_8 := (STEP_main_v73_8 V0).trans (step_8 h)
  k_6 := (STEP_main_v73_6 V0).trans h.k_6
  k_7 := (STEP_main_v73_7 V0).trans h.k_7
  f_0 := (STEP_main_v73_0 V0).trans h.f_0
  f_1 := (STEP_main_v73_1 V0).trans h.f_1
  f_2 := (STEP_main_v73_2 V0).trans h.f_2
  f_3 := (STEP_main_v73_3 V0).trans h.f_3
  f_4 := (STEP_main_v73_4 V0).trans h.f_4
  f_5 := (STEP_main_v73_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- The states the trips go through. -/
def stateAt : ℕ → State F
  | 0 => initState m c
  | n + 1 => step n (stateAt n)

theorem holds_iter : ∀ k, Holds (STEP^[k] (entryContents preI m c)) (stateAt m c k) k
  | 0 => entry_holds m c
  | k + 1 => by
    rw [Function.iterate_succ_apply']
    exact holds_step (holds_iter k)

/-- The forward result of the state the loop ends in. -/
theorem forward (h : Holds V0 s j) : out_main_v78 V0 = R_main_v78 s := by
  unfold out_main_v78; rw [h.f_11]; rfl

/-- The backward result of the state the loop ends in. -/
theorem backward (h : Holds V0 s j) : out_main_v84 V0 = R_main_v84 s := by
  unfold out_main_v84; rw [h.f_11]; rfl

/-- Every run of the reference leaves the two results of the thirty-second state, and its arguments as they were. -/
theorem run_trips (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v78) = R_main_v78 (stateAt m c 32)
      ∧ r.2.mem ((c.tc : Thread nD τ).loc main_v84) = R_main_v84 (stateAt m c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c 32
    ⟨(h c).1.trans (forward hk), (h c).2.1.trans (backward hk), (h c).2.2⟩) (Value.run m ρ)

end Cert.ReferenceIdeal.Trips

end
-- ==== Proof.MlstmRefValue.lean ====
/- The plain recurrence's two results, as the outputs of the recurrence of each head in each direction. -/
module

public import proofs.«01_k».proof.Proof.MlstmRefStep
public import proofs.«01_k».proof.Proof.MlstmRefRun

@[expose] public section

noncomputable section

open Idealize.ShloMosaic Idealize.ShloMosaic.TcCoe Idealize.ShloMosaic.StableHlo

namespace Cert.ReferenceIdeal.Step

open Cert.ReferenceIdeal Cert.Mlstm

variable (a0 : (⟨S4x4096x2048, .bf16⟩ : BufTy).Contents (Elt Ideal)) (a1 : (⟨S4x4096x11264, .bf16⟩ : BufTy).Contents (Elt Ideal))
  (a2 : (⟨S4x4096x128, .bf16⟩ : BufTy).Contents (Elt Ideal)) (a3 : (⟨S4x128x4096, .bf16⟩ : BufTy).Contents (Elt Ideal))
  (a4 : (⟨S4x32x128, .f32⟩ : BufTy).Contents (Elt Ideal))

/-- The arrays of the call. -/
def arraysOf : Arrays where
  qk b r c := a0 (ix3 b r c)
  pv b r c := a1 (ix3 b r c)
  am b r c := a2 (ix3 b r c)
  rr b c r := a3 (ix3 b c r)
  kp b c l := a4 (ix3 b c l)

/-- What each head reads in each direction. -/
abbrev seqOf (d : Fin 2) (b h : Fin 4) : Seq := (arraysOf a0 a1 a2 a3 a4).seq d b h

/-- A state before trip `n`: it feeds the trips from the arrays, holds the matrix states and normalisers, and has the
    outputs of the earlier trips. -/
structure Before (n : ℕ) (s : State Ideal) : Prop where
  f0 : s.main_v73_0 = A_main_v7 a0 a1 a2 a3 a4
  f1 : s.main_v73_1 = A_main_v15 a0 a1 a2 a3 a4
  f2 : s.main_v73_2 = A_main_v23 a0 a1 a2 a3 a4
  f3 : s.main_v73_3 = A_main_v55 a0 a1 a2 a3 a4
  f4 : s.main_v73_4 = A_main_v63 a0 a1 a2 a3 a4
  f5 : s.main_v73_5 = A_main_v71 a0 a1 a2 a3 a4
  C : ∀ d b h i c, s.main_v73_9 (ix5 d b h i c) = (seqOf a0 a1 a2 a3 a4 d b h).C n i c
  N : ∀ d b h i, s.main_v73_10 (ix4 d b h i) = (seqOf a0 a1 a2 a3 a4 d b h).N n i
  out : ∀ k : Fin 32, k.val < n → ∀ d b h j c,
    s.main_v73_11 (ix6 k d b h j c) = (seqOf a0 a1 a2 a3 a4 d b h).out k.val j c

variable {a0 a1 a2 a3 a4}

theorem Before.fed {n : ℕ} {s : State Ideal} (H : Before a0 a1 a2 a3 a4 n s) : Fed s (seqOf a0 a1 a2 a3 a4) where
  q n d b h j i := by rw [H.f0]; exact v7_at a0 a1 a2 a3 a4 n d b h j i
  k n d b h j i := by rw [H.f1]; exact v15_at a0 a1 a2 a3 a4 n d b h j i
  v n d b h j i := by rw [H.f2]; exact v23_at a0 a1 a2 a3 a4 n d b h j i
  keep n d b h := by rw [H.f5]; exact v71_at a0 a1 a2 a3 a4 n d b h
  dec n d b h j i := by
    rw [b72_at, H.f3, H.f4]
    simp only [v55_at, v63_at]
    rfl
  iw n d b h j := by
    rw [b46_at, H.f3]
    simp only [v55_at]
    rfl
  clamp n d b h j := by
    rw [b53_at, H.f3]
    simp only [v55_at]
    rfl
  w n d b h j := by
    rw [b60_at, H.f3]
    simp only [v55_at]
    rfl

theorem Before.init : Before a0 a1 a2 a3 a4 0 (init a0 a1 a2 a3 a4) where
  f0 := rfl
  f1 := rfl
  f2 := rfl
  f3 := rfl
  f4 := rfl
  f5 := rfl
  C d b h i c := by
    show K_main_v46 (F := Ideal) (ix5 d b h i c) = 0
    pointwise [K_main_v46, K_main_cst]
  N d b h i := by
    show K_main_v47 (F := Ideal) (ix4 d b h i) = 0
    pointwise [K_main_v47, K_main_cst_0]
  out k hk := absurd hk (by omega)

theorem Before.step {n : ℕ} (hn : n < 32) {s : State Ideal} (H : Before a0 a1 a2 a3 a4 n s) :
    Before a0 a1 a2 a3 a4 (n + 1) (step n s) where
  f0 := H.f0
  f1 := H.f1
  f2 := H.f2
  f3 := H.f3
  f4 := H.f4
  f5 := H.f5
  C d b h i c := by rw [step_main_v73_9]; exact b100_at ⟨n, hn⟩ H.fed H.C d b h i c
  N d b h i := by rw [step_main_v73_10]; exact b105_at ⟨n, hn⟩ H.fed H.C H.N d b h i
  out k hk d b h j c := by
    rw [step_main_v73_11, b112_at ⟨n, hn⟩ H.fed H.C H.N k d b h j c]
    split
    · next e => rw [e]
    · next e => exact H.out k (by have : k.val ≠ n := fun e' => e (Fin.ext e'); omega) d b h j c

theorem forward_at {s : State Ideal} (H : Before a0 a1 a2 a3 a4 32 s) (b : Fin 4) (n : Fin 32) (j : Fin 128) (h : Fin 4)
    (c : Fin 256) :
    R_main_v78 s (ix3 b ⟨128 * n.val + j.val, by omega⟩ ⟨256 * h.val + c.val, by omega⟩)
      = (seqOf a0 a1 a2 a3 a4 0 b h).out n.val j c := by
  pointwise [R_main_v78]
  exact H.out n n.isLt 0 b h j c

theorem backward_at {s : State Ideal} (H : Before a0 a1 a2 a3 a4 32 s) (b : Fin 4) (n : Fin 32) (j : Fin 128) (h : Fin 4)
    (c : Fin 256) :
    R_main_v84 s (ix3 b ⟨128 * n.val + j.val, by omega⟩ ⟨256 * h.val + c.val, by omega⟩)
      = (seqOf a0 a1 a2 a3 a4 1 b h).out n.rev.val j c := by
  pointwise [R_main_v84]
  exact H.out n.rev n.rev.isLt 1 b h j c

end Cert.ReferenceIdeal.Step

namespace Cert.ReferenceIdeal.Trips

open Cert.ReferenceIdeal Cert.ReferenceIdeal.Step

variable (m : (ℓ : Loc nD τ sig) → Buf (Elt Ideal) ℓ) (c : Dev nD)

theorem before_stateAt : ∀ n ≤ 32, Before (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    n (stateAt m c n)
  | 0, _ => Before.init
  | n + 1, h => (before_stateAt n (by omega)).step (by omega)

end Cert.ReferenceIdeal.Trips
-- ==== Proof.MlstmValue.lean ====
/- The mLSTM call as a whole, and the plain recurrence in both directions, which returns the same two arrays. -/
module

public import proofs.«01_k».proof.Proof.MlstmGrid
public import proofs.«01_k».proof.Proof.MlstmRefValue
public import proofs.«01_k».proof.Defs
public import Idealize.ShloMosaic.Lib.Claim

@[expose] public section

set_option maxRecDepth 16384

noncomputable section

open Idealize.ShloMosaic Idealize.ShloMosaic.TcCoe Idealize.SL.Sem

namespace Cert.Mlstm

/-- The outputs of the forward recurrences, chunk by chunk and head by head. -/
def Arrays.forward (A : Arrays) : FVec Ideal ⟨3, ![4, 4096, 1024]⟩ .bf16 := fun y =>
  (A.seq 0 (y 0) ⟨(y 2).val / 256, by have : (y 2).val < 1024 := (y 2).isLt; omega⟩).out ((y 1).val / 128)
    ⟨(y 1).val % 128, by omega⟩ ⟨(y 2).val % 256, by omega⟩

/-- The outputs of the backward recurrences, which meet the last chunk first. -/
def Arrays.backward (A : Arrays) : FVec Ideal ⟨3, ![4, 4096, 1024]⟩ .bf16 := fun y =>
  (A.seq 1 (y 0) ⟨(y 2).val / 256, by have : (y 2).val < 1024 := (y 2).isLt; omega⟩).out (31 - (y 1).val / 128)
    ⟨(y 1).val % 128, by omega⟩ ⟨(y 2).val % 256, by omega⟩

theorem forward_ix (A : Arrays) (b : Fin 4) (n : Fin 32) (j : Fin 128) (h : Fin 4) (l : Fin 256) :
    Arrays.forward A (ix3 b ⟨128 * n.val + j.val, by omega⟩ ⟨256 * h.val + l.val, by omega⟩) = (A.seq 0 b h).out n.val j l := by
  have e1 : (128 * n.val + j.val) / 128 = n.val := by omega
  have e2 : (⟨(128 * n.val + j.val) % 128, by omega⟩ : Fin 128) = j := Fin.ext (by show (128 * n.val + j.val) % 128 = j.val; omega)
  have e3 : (⟨(256 * h.val + l.val) % 256, by omega⟩ : Fin 256) = l := Fin.ext (by show (256 * h.val + l.val) % 256 = l.val; omega)
  have e4 : (⟨(256 * h.val + l.val) / 256, by omega⟩ : Fin 4) = h := Fin.ext (by show (256 * h.val + l.val) / 256 = h.val; omega)
  show (A.seq 0 b ⟨(256 * h.val + l.val) / 256, _⟩).out ((128 * n.val + j.val) / 128) ⟨(128 * n.val + j.val) % 128, _⟩
    ⟨(256 * h.val + l.val) % 256, _⟩ = _
  rw [e1, e2, e3, e4]

theorem backward_ix (A : Arrays) (b : Fin 4) (n : Fin 32) (j : Fin 128) (h : Fin 4) (l : Fin 256) :
    Arrays.backward A (ix3 b ⟨128 * n.val + j.val, by omega⟩ ⟨256 * h.val + l.val, by omega⟩) = (A.seq 1 b h).out (31 - n.val) j l := by
  have e1 : (128 * n.val + j.val) / 128 = n.val := by omega
  have e2 : (⟨(128 * n.val + j.val) % 128, by omega⟩ : Fin 128) = j := Fin.ext (by show (128 * n.val + j.val) % 128 = j.val; omega)
  have e3 : (⟨(256 * h.val + l.val) % 256, by omega⟩ : Fin 256) = l := Fin.ext (by show (256 * h.val + l.val) % 256 = l.val; omega)
  have e4 : (⟨(256 * h.val + l.val) / 256, by omega⟩ : Fin 4) = h := Fin.ext (by show (256 * h.val + l.val) / 256 = h.val; omega)
  show (A.seq 1 b ⟨(256 * h.val + l.val) / 256, _⟩).out (31 - (128 * n.val + j.val) / 128) ⟨(128 * n.val + j.val) % 128, _⟩
    ⟨(256 * h.val + l.val) % 256, _⟩ = _
  rw [e1, e2, e3, e4]

/-- Every index of a block of rows is a position of a chunk and an entry of a head. -/
theorem split_rows {K : ℕ} (k : Fin (128 * K)) : ∃ (n : Fin K) (j : Fin 128), k = ⟨128 * n.val + j.val, by
    have := n.isLt; have := j.isLt; omega⟩ :=
  ⟨⟨k.val / 128, by have := k.isLt; omega⟩, ⟨k.val % 128, by omega⟩, Fin.ext (by show k.val = 128 * (k.val / 128) + k.val % 128; omega)⟩

theorem split_lanes (k : Fin 1024) : ∃ (h : Fin 4) (l : Fin 256), k = ⟨256 * h.val + l.val, by omega⟩ :=
  ⟨⟨k.val / 256, by omega⟩, ⟨k.val % 256, by omega⟩, Fin.ext (by show k.val = 256 * (k.val / 256) + k.val % 256; omega)⟩

end Cert.Mlstm

namespace Cert.KernelIdeal.Value

open Cert.KernelIdeal Cert.KernelIdeal.Gen Cert.Mlstm

variable (m : (ℓ : Loc nD τ sig) → Buf (Elt Ideal) ℓ)

/-- The forward result of the call. -/
theorem final_fwd (c : Dev nD) : (dats m 0 c).arrAt 12 (cfgs 0).N = Arrays.forward (arrays m c) := by
  refine (dats m 0 c).arrAt_eq_of_covers 12 _ (by decide +kernel) fun t hf y => ?_
  blk_simp
  rw [after0_12]
  have ht : t.val < 32 := lt_of_lt_of_eq t.isLt N_0
  obtain ⟨r, i, rfl⟩ : ∃ (r : Fin 512) (i : Fin 1024), y = ix3 0 r i := ⟨y 1, y 2, by
    have e : @Eq (Fin 1) (y 0) 0 := @Subsingleton.elim (Fin 1) _ _ _
    exact (eq_ix3 y).trans (congrArg (fun z : Fin 1 => ix3 z (y 1) (y 2)) e)⟩
  obtain ⟨p, j, rfl⟩ := split_rows (K := 4) r
  obtain ⟨h, l, rfl⟩ := split_lanes i
  have he : (((cfg0.win 12).blk t).view.emb (ix3 0 ⟨128 * p.val + j.val, by omega⟩ ⟨256 * h.val + l.val, by omega⟩) : S4x4096x1024.Idx)
      = ix3 ⟨t.val / 8, by omega⟩ ⟨128 * (4 * (t.val % 8) + p.val) + j.val, by omega⟩ ⟨256 * h.val + l.val, by omega⟩ := by
    blk_ext [idx t]
  refine (block_fwd m c t ⟨t.val / 8, by omega⟩ rfl p j h l).trans ?_
  refine Eq.trans ?_ (congrArg (Arrays.forward (arrays m c)) he).symm
  exact (forward_ix (arrays m c) ⟨t.val / 8, by omega⟩ ⟨4 * (t.val % 8) + p.val, by omega⟩ j h l).symm

/-- The backward result of the call. -/
theorem final_bwd (c : Dev nD) : (dats m 0 c).arrAt 13 (cfgs 0).N = Arrays.backward (arrays m c) := by
  refine (dats m 0 c).arrAt_eq_of_covers 13 _ (by decide +kernel) fun t hf y => ?_
  blk_simp
  rw [after0_13]
  have ht : t.val < 32 := lt_of_lt_of_eq t.isLt N_0
  obtain ⟨r, i, rfl⟩ : ∃ (r : Fin 512) (i : Fin 1024), y = ix3 0 r i := ⟨y 1, y 2, by
    have e : @Eq (Fin 1) (y 0) 0 := @Subsingleton.elim (Fin 1) _ _ _
    exact (eq_ix3 y).trans (congrArg (fun z : Fin 1 => ix3 z (y 1) (y 2)) e)⟩
  obtain ⟨p, j, rfl⟩ := split_rows (K := 4) r
  obtain ⟨h, l, rfl⟩ := split_lanes i
  have he : (((cfg0.win 13).blk t).view.emb (ix3 0 ⟨128 * p.val + j.val, by omega⟩ ⟨256 * h.val + l.val, by omega⟩) : S4x4096x1024.Idx)
      = ix3 ⟨t.val / 8, by omega⟩ ⟨128 * (4 * (7 - t.val % 8) + p.val) + j.val, by omega⟩ ⟨256 * h.val + l.val, by omega⟩ := by
    blk_ext [idx t]
  refine (block_bwd m c t ⟨t.val / 8, by omega⟩ rfl p j h l).trans ?_
  refine Eq.trans ?_ (congrArg (Arrays.backward (arrays m c)) he).symm
  refine Eq.trans ?_ (backward_ix (arrays m c) ⟨t.val / 8, by omega⟩ ⟨4 * (7 - t.val % 8) + p.val, by omega⟩ j h l).symm
  rw [show 31 - (4 * (7 - t.val % 8) + p.val) = 4 * (t.val % 8) + (3 - p.val) by omega]

end Cert.KernelIdeal.Value

namespace Cert.ReferenceIdeal.Trips

open Cert.ReferenceIdeal Cert.ReferenceIdeal.Step Cert.Mlstm

section results

variable {a0 : FVec Ideal S4x4096x2048 .bf16} {a1 : FVec Ideal S4x4096x11264 .bf16} {a2 : FVec Ideal S4x4096x128 .bf16}
  {a3 : FVec Ideal S4x128x4096 .bf16} {a4 : FVec Ideal S4x32x128 .f32} {s : State Ideal}

theorem forward_eq (H : Before a0 a1 a2 a3 a4 32 s) : R_main_v78 s = Arrays.forward (arraysOf a0 a1 a2 a3 a4) := by
  funext y
  obtain ⟨b, r, i, rfl⟩ : ∃ (b : Fin 4) (r : Fin 4096) (i : Fin 1024), y = ix3 b r i := ⟨y 0, y 1, y 2, eq_ix3 y⟩
  obtain ⟨n, j, rfl⟩ := split_rows (K := 32) r
  obtain ⟨h, l, rfl⟩ := split_lanes i
  exact (forward_at H b n j h l).trans (forward_ix _ b n j h l).symm

theorem backward_eq (H : Before a0 a1 a2 a3 a4 32 s) : R_main_v84 s = Arrays.backward (arraysOf a0 a1 a2 a3 a4) := by
  funext y
  obtain ⟨b, r, i, rfl⟩ : ∃ (b : Fin 4) (r : Fin 4096) (i : Fin 1024), y = ix3 b r i := ⟨y 0, y 1, y 2, eq_ix3 y⟩
  obtain ⟨n, j, rfl⟩ := split_rows (K := 32) r
  obtain ⟨h, l, rfl⟩ := split_lanes i
  refine (backward_at H b n j h l).trans (Eq.trans ?_ (backward_ix _ b n j h l).symm)
  rw [Fin.val_rev, show 32 - (n.val + 1) = 31 - n.val by omega]

end results

/-- The plain recurrence runs to the arrays of `Arrays.forward` and `Arrays.backward`. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = Arrays.forward (arraysOf (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)))
      ∧ r.2.mem ((c.tc : Thread nD τ).loc main_v84) = Arrays.backward (arraysOf (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (forward_eq (before_stateAt m c 32 le_rfl)),
    (h c).2.1.trans (backward_eq (before_stateAt m c 32 le_rfl)), (h c).2.2⟩) (run_trips m ρ)

end Cert.ReferenceIdeal.Trips

namespace Cert.Proof

/-- Over the reals the mLSTM call and the plain recurrence return the same two arrays. -/
theorem mlstm_algebraic : Cert.algebraic_KernelIdeal_ReferenceIdeal := by
  pair_intro
  · run_from Cert.KernelIdeal.Gen.run_main m g
  · run_from Cert.ReferenceIdeal.Trips.run_results m' g'
    · exact (Cert.KernelIdeal.Value.final_fwd m c).symm
    · exact (Cert.KernelIdeal.Value.final_bwd m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.ReferenceIdeal.Step
public import proofs.«01_k».proof.Proof.Gen.Kernel4Ideal.Value
public import proofs.«01_k».proof.Proof.Gen.Reference4Ideal
public import proofs.«01_k».proof.Proof.Gen.Reference3Ideal
public import proofs.«01_k».proof.Proof.Gen.Reference3Ideal.Run
public import proofs.«01_k».proof.Proof.Gen.Reference4Ideal.Run
public import proofs.«01_k».proof.Proof.FfnRef
public import proofs.«01_k».proof.Proof.InprojFrame
public import proofs.«01_k».proof.Proof.InprojRef
public import proofs.«01_k».proof.Proof.MergeValue
public import proofs.«01_k».proof.Proof.MlstmValue
public import Idealize.ShloMosaic.Adequacy
public import Idealize.ShloMosaic.Init

@[expose] public section

noncomputable section

namespace Cert.Proof

open Idealize.ShloMosaic Idealize.SL.Sem Cert.Kernel

/-- The plain recurrence runs to its end, its arguments end as launched and no semaphore counter is left raised. -/
theorem frame_mlstm_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The plain feed-forward layer runs to its end, its arguments end as launched and no semaphore counter is left raised. -/
theorem frame_ffn_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The plain input projection runs to its end, its arguments end as launched and no semaphore counter is left raised. -/
theorem frame_inproj_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The plain merge runs to its end, its arguments end as launched and no semaphore counter is left raised. -/
theorem frame_merge_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, by
  refine ⟨?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact frame_mlstm_reference
  · exact fun m ρ _ => Cert.Kernel2.Gen.frame m ρ
  · exact fun m ρ _ => Cert.Kernel2Ideal.Gen.frame m ρ
  · exact frame_ffn_reference
  · exact fun m ρ _ => Cert.Kernel3.Gen.frame m ρ
  · exact fun m ρ _ => Cert.Kernel3Ideal.Gen.frame m ρ
  · exact frame_inproj_reference
  · exact fun m ρ _ => Cert.Kernel4.Gen.frame m ρ
  · exact fun m ρ _ => Cert.Kernel4Ideal.Gen.frame m ρ
  · exact frame_merge_reference
  · trivial
  · exact mlstm_algebraic
  · trivial
  · exact ffn_algebraic
  · trivial
  · exact inproj_algebraic
  · trivial
  · exact merge_algebraic⟩

end Cert.Proof

end
